-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_is_finite [hPre_gamma_is_finite : Cert.Pre_gamma_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_is_finite [hPre_gamma_is_finite : Cert.Pre_gamma_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_is_finite [hKernelIdeal : Cert.KernelIdeal.Facts] [hPre_gamma_is_finite : Cert.Pre_gamma_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_is_finite [hReferenceIdeal : Cert.ReferenceIdeal.Facts] [hPre_gamma_is_finite : Cert.Pre_gamma_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gamma_is_finite [hKernelIdeal : Cert.KernelIdeal.Facts] [hReferenceIdeal : Cert.ReferenceIdeal.Facts] [hPre_gamma_is_finite : Cert.Pre_gamma_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_is_finite : Cert.Pre_gamma_is_finite.Facts),
    quiescent_Kernel (hKernel := hKernel)
    ∧ quiescent_KernelIdeal (hKernelIdeal := hKernelIdeal)
    ∧ quiescent_KernelIdeal_pre_gamma_is_finite (hKernelIdeal := hKernelIdeal) (hPre_gamma_is_finite := hPre_gamma_is_finite)
    ∧ quiescent_ReferenceIdeal (hReferenceIdeal := hReferenceIdeal)
    ∧ quiescent_ReferenceIdeal_pre_gamma_is_finite (hReferenceIdeal := hReferenceIdeal) (hPre_gamma_is_finite := hPre_gamma_is_finite)
    ∧ preserves_Kernel_KernelIdeal
    ∧ algebraic_KernelIdeal_ReferenceIdeal_pre_gamma_is_finite (hKernelIdeal := hKernelIdeal) (hReferenceIdeal := hReferenceIdeal) (hPre_gamma_is_finite := hPre_gamma_is_finite)
-- ==== Pre_gamma_is_finite.lean ====
abbrev S1x4096x4096 : Shape := ⟨3, ![1, 4096, 4096]⟩
abbrev S4096 : Shape := ⟨1, ![4096]⟩
abbrev S2112x4096 : Shape := ⟨2, ![2112, 4096]⟩
abbrev S17x32 : Shape := ⟨2, ![17, 32]⟩
abbrev S1536 : Shape := ⟨1, ![1536]⟩
abbrev S512 : Shape := ⟨1, ![512]⟩
abbrev S_ : Shape := ⟨0, ![]⟩

class Facts : Prop where
  bitsLt_bf16_f32 : FTy.bits .bf16 < FTy.bits .f32
  bcast_S_S4096 : S_.BroadcastsInDim S4096 (![] : Fin 0 → Fin S4096.rank)

variable [Facts]

def fn {F : FTy → Type} [FloatOps F] (main_arg0 : FVec F S1x4096x4096 .bf16) (main_arg1 : FVec F S4096 .bf16) (main_arg2 : FVec F S2112x4096 .fp8e4m3) (main_arg3 : FVec F S17x32 .f32) (main_arg4 : FVec F S1536 .bf16) (main_arg5 : FVec F S512 .bf16) : IVec S4096 1 :=
  let main_v0 : FVec F S4096 .f32 := (extf .f32 · bitsLt_bf16_f32) main_arg1
  let main_v1 : FVec F S4096 .f32 := Host.absf main_v0
  let main_cst : FVec F S_ .f32 := constant S_ .f32 0x7F7F0000#32
  let main_v2 : FVec F S4096 .f32 := broadcastInDim S4096 ![] bcast_S_S4096 main_cst
  let main_v3 : IVec S4096 1 := cmpf .ole main_v1 main_v2
  main_v3
-- ==== Kernel.lean ====
abbrev S1x4096x4096 : Shape := ⟨3, ![1, 4096, 4096]⟩
abbrev S4096 : Shape := ⟨1, ![4096]⟩
abbrev S2112x4096 : Shape := ⟨2, ![2112, 4096]⟩
abbrev S17x32 : Shape := ⟨2, ![17, 32]⟩
abbrev S1536 : Shape := ⟨1, ![1536]⟩
abbrev S512 : Shape := ⟨1, ![512]⟩
abbrev S4096x4096 : Shape := ⟨2, ![4096, 4096]⟩
abbrev S1x4096 : Shape := ⟨2, ![1, 4096]⟩
abbrev S1x1536 : Shape := ⟨2, ![1, 1536]⟩
abbrev S1x512 : Shape := ⟨2, ![1, 512]⟩
abbrev S4096x1536 : Shape := ⟨2, ![4096, 1536]⟩
abbrev S4096x512 : Shape := ⟨2, ![4096, 512]⟩
abbrev S4096x64 : Shape := ⟨2, ![4096, 64]⟩
abbrev S4096x32 : Shape := ⟨2, ![4096, 32]⟩
abbrev S256x4096 : Shape := ⟨2, ![256, 4096]⟩
abbrev S256x1536 : Shape := ⟨2, ![256, 1536]⟩
abbrev S256x512 : Shape := ⟨2, ![256, 512]⟩
abbrev S256x64 : Shape := ⟨2, ![256, 64]⟩
abbrev S256x32 : Shape := ⟨2, ![256, 32]⟩
abbrev S1x1 : Shape := ⟨2, ![1, 1]⟩
abbrev S128x128 : Shape := ⟨2, ![128, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S256x2112 : Shape := ⟨2, ![256, 2112]⟩

abbrev nBuf : Space → Nat
  | .hbm => 15
  | .vmem => 18
  | .smem => 1
  | _ => 0

abbrev bufTy : (tb : Table) → Fin (tcTables nBuf tb) → BufTy
  | .hbm, ⟨0, _⟩ => ⟨S1x4096x4096, .bf16⟩
  | .hbm, ⟨1, _⟩ => ⟨S4096, .bf16⟩
  | .hbm, ⟨2, _⟩ => ⟨S2112x4096, .fp8e4m3⟩
  | .hbm, ⟨3, _⟩ => ⟨S17x32, .f32⟩
  | .hbm, ⟨4, _⟩ => ⟨S1536, .bf16⟩
  | .hbm, ⟨5, _⟩ => ⟨S512, .bf16⟩
  | .hbm, ⟨6, _⟩ => ⟨S4096x4096, .bf16⟩
  | .hbm, ⟨7, _⟩ => ⟨S1x4096, .bf16⟩
  | .hbm, ⟨8, _⟩ => ⟨S1x1536, .bf16⟩
  | .hbm, ⟨9, _⟩ => ⟨S1x512, .bf16⟩
  | .hbm, ⟨10, _⟩ => ⟨S4096x1536, .bf16⟩
  | .hbm, ⟨11, _⟩ => ⟨S4096x512, .bf16⟩
  | .hbm, ⟨12, _⟩ => ⟨S4096x64, .bf16⟩
  | .hbm, ⟨13, _⟩ => ⟨S4096x4096, .fp8e4m3⟩
  | .hbm, ⟨14, _⟩ => ⟨S4096x32, .f32⟩
  | .local _ .vmem, ⟨0, _⟩ => ⟨S256x4096, .bf16⟩
  | .local _ .vmem, ⟨1, _⟩ => ⟨S256x4096, .bf16⟩
  | .local _ .vmem, ⟨2, _⟩ => ⟨S1x4096, .bf16⟩
  | .local _ .vmem, ⟨3, _⟩ => ⟨S2112x4096, .fp8e4m3⟩
  | .local _ .vmem, ⟨4, _⟩ => ⟨S1x1536, .bf16⟩
  | .local _ .vmem, ⟨5, _⟩ => ⟨S1x512, .bf16⟩
  | .local _ .vmem, ⟨6, _⟩ => ⟨S256x1536, .bf16⟩
  | .local _ .vmem, ⟨7, _⟩ => ⟨S256x1536, .bf16⟩
  | .local _ .vmem, ⟨8, _⟩ => ⟨S256x512, .bf16⟩
  | .local _ .vmem, ⟨9, _⟩ => ⟨S256x512, .bf16⟩
  | .local _ .vmem, ⟨10, _⟩ => ⟨S256x64, .bf16⟩
  | .local _ .vmem, ⟨11, _⟩ => ⟨S256x64, .bf16⟩
  | .local _ .vmem, ⟨12, _⟩ => ⟨S256x4096, .fp8e4m3⟩
  | .local _ .vmem, ⟨13, _⟩ => ⟨S256x4096, .fp8e4m3⟩
  | .local _ .vmem, ⟨14, _⟩ => ⟨S256x32, .f32⟩
  | .local _ .vmem, ⟨15, _⟩ => ⟨S256x32, .f32⟩
  | .local _ .vmem, ⟨16, _⟩ => ⟨S2112x4096, .bf16⟩
  | .local _ .vmem, ⟨17, _⟩ => ⟨S256x4096, .bf16⟩
  | .local _ .smem, ⟨0, _⟩ => ⟨S17x32, .f32⟩
  | _, _ => ⟨S1x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S17x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2112x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x4096x4096 : Shape := ⟨3, ![1, 4096, 4096]⟩
abbrev S4096 : Shape := ⟨1, ![4096]⟩
abbrev S2112x4096 : Shape := ⟨2, ![2112, 4096]⟩
abbrev S17x32 : Shape := ⟨2, ![17, 32]⟩
abbrev S1536 : Shape := ⟨1, ![1536]⟩
abbrev S512 : Shape := ⟨1, ![512]⟩
abbrev S4096x4096 : Shape := ⟨2, ![4096, 4096]⟩
abbrev S1x4096 : Shape := ⟨2, ![1, 4096]⟩
abbrev S1x1536 : Shape := ⟨2, ![1, 1536]⟩
abbrev S1x512 : Shape := ⟨2, ![1, 512]⟩
abbrev S4096x1536 : Shape := ⟨2, ![4096, 1536]⟩
abbrev S4096x512 : Shape := ⟨2, ![4096, 512]⟩
abbrev S4096x64 : Shape := ⟨2, ![4096, 64]⟩
abbrev S4096x32 : Shape := ⟨2, ![4096, 32]⟩
abbrev S4096x1 : Shape := ⟨2, ![4096, 1]⟩
abbrev S4096x32x128 : Shape := ⟨3, ![4096, 32, 128]⟩
abbrev S4096x32x1 : Shape := ⟨3, ![4096, 32, 1]⟩
abbrev S17x1x32 : Shape := ⟨3, ![17, 1, 32]⟩
abbrev S17x128x32 : Shape := ⟨3, ![17, 128, 32]⟩
abbrev S2176x32 : Shape := ⟨2, ![2176, 32]⟩
abbrev S2112x32 : Shape := ⟨2, ![2112, 32]⟩
abbrev S2112x32x1 : Shape := ⟨3, ![2112, 32, 1]⟩
abbrev S2112x32x128 : Shape := ⟨3, ![2112, 32, 128]⟩
abbrev S4096x2112 : Shape := ⟨2, ![4096, 2112]⟩

abbrev nBuf : Space → Nat
  | .hbm => 15
  | .vmem => 11
  | .smem => 0
  | _ => 0

abbrev bufTy : (tb : Table) → Fin (tcTables nBuf tb) → BufTy
  | .hbm, ⟨0, _⟩ => ⟨S1x4096x4096, .bf16⟩
  | .hbm, ⟨1, _⟩ => ⟨S4096, .bf16⟩
  | .hbm, ⟨2, _⟩ => ⟨S2112x4096, .fp8e4m3⟩
  | .hbm, ⟨3, _⟩ => ⟨S17x32, .f32⟩
  | .hbm, ⟨4, _⟩ => ⟨S1536, .bf16⟩
  | .hbm, ⟨5, _⟩ => ⟨S512, .bf16⟩
  | .hbm, ⟨6, _⟩ => ⟨S4096x4096, .bf16⟩
  | .hbm, ⟨7, _⟩ => ⟨S1x4096, .bf16⟩
  | .hbm, ⟨8, _⟩ => ⟨S1x1536, .bf16⟩
  | .hbm, ⟨9, _⟩ => ⟨S1x512, .bf16⟩
  | .hbm, ⟨10, _⟩ => ⟨S4096x1536, .bf16⟩
  | .hbm, ⟨11, _⟩ => ⟨S4096x512, .bf16⟩
  | .hbm, ⟨12, _⟩ => ⟨S4096x64, .bf16⟩
  | .hbm, ⟨13, _⟩ => ⟨S4096x4096, .fp8e4m3⟩
  | .hbm, ⟨14, _⟩ => ⟨S4096x32, .f32⟩
  | .local _ .vmem, ⟨0, _⟩ => ⟨S4096x4096, .bf16⟩
  | .local _ .vmem, ⟨1, _⟩ => ⟨S1x4096, .bf16⟩
  | .local _ .vmem, ⟨2, _⟩ => ⟨S2112x4096, .fp8e4m3⟩
  | .local _ .vmem, ⟨3, _⟩ => ⟨S17x32, .f32⟩
  | .local _ .vmem, ⟨4, _⟩ => ⟨S1x1536, .bf16⟩
  | .local _ .vmem, ⟨5, _⟩ => ⟨S1x512, .bf16⟩
  | .local _ .vmem, ⟨6, _⟩ => ⟨S4096x1536, .bf16⟩
  | .local _ .vmem, ⟨7, _⟩ => ⟨S4096x512, .bf16⟩
  | .local _ .vmem, ⟨8, _⟩ => ⟨S4096x64, .bf16⟩
  | .local _ .vmem, ⟨9, _⟩ => ⟨S4096x4096, .fp8e4m3⟩
  | .local _ .vmem, ⟨10, _⟩ => ⟨S4096x32, .f32⟩
  | _, _ => ⟨S1x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2112x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Scale.lean ====
module

public import Idealize.ShloMosaic.PureOps.Ideal

@[expose] public section

noncomputable section

/-! # The scale of a group, as the kernel and as the reference find it

The kernel finds the exponent field of `t`'s word bit by bit and builds the scale and its inverse as words; the
reference takes `exp2 e` and `exp2 (-e)`. On `0 ≤ t < 2^126` they are equal. -/

namespace Mla

open Idealize.ShloMosaic

/-- What an f32 word denotes. -/
def val (b : BitVec 32) : EReal := Ideal.ofBits .f32 b

/-- The word whose exponent field is `n` and whose other bits are zero. -/
def word (n : ℕ) : BitVec 32 := BitVec.ofNat 32 (n * 2 ^ 23)

/-- An exponent word as a natural number. -/
theorem word_toNat {n : ℕ} (h : n ≤ 255) : (word n).toNat = n * 2 ^ 23 := by
  rw [word, BitVec.toNat_ofNat, Nat.mod_eq_of_lt]; omega

/-- What the word of exponent `n` denotes. -/
theorem val_word {n : ℕ} (h : n ≤ 255) :
    val (word n) = if n = 255 then ⊤ else if n = 0 then 0 else (((2 : ℝ) ^ ((n : ℤ) - 127) : ℝ) : EReal) := by
  have hs : (word n).extractLsb' 31 1 = 0#1 := by
    apply BitVec.eq_of_toNat_eq
    rw [BitVec.extractLsb'_toNat, word_toNat h, Nat.shiftRight_eq_div_pow]
    simp only [BitVec.toNat_ofNat]; omega
  have he : ((word n).extractLsb' 23 8).toNat = n := by
    rw [BitVec.extractLsb'_toNat, word_toNat h, Nat.shiftRight_eq_div_pow]; omega
  have hf : ((word n).extractLsb' 0 23).toNat = 0 := by
    rw [BitVec.extractLsb'_toNat, word_toNat h, Nat.shiftRight_eq_div_pow]; omega
  show Ideal.ieee 8 23 (word n) = _
  unfold Ideal.ieee
  simp only [Nat.reduceAdd, hs, he, hf]
  norm_num
  by_cases h1 : n = 255
  · simp [h1]
  · by_cases h2 : n = 0
    · simp [h2]
    · simp only [h1, h2, if_false]
      congr 1
      rw [show (8388608 : ℝ) = (2 : ℝ) ^ (23 : ℤ) by norm_num, ← EReal.coe_mul,
        ← zpow_add₀ (by norm_num : (2 : ℝ) ≠ 0)]
      congr 2; ring

/-- An exponent word with its field strictly between 0 and 255 is a power of two. -/
theorem val_word_mid {n : ℕ} (h0 : 0 < n) (h : n < 255) :
    val (word n) = (((2 : ℝ) ^ ((n : ℤ) - 127) : ℝ) : EReal) := by
  rw [val_word (by omega), if_neg (by omega), if_neg (by omega)]

/-- The sum of exponent words has the sum of the fields. -/
theorem word_add (n k : ℕ) : word n + word k = word (n + k) := by
  unfold word
  rw [← BitVec.ofNat_add, Nat.add_mul]

/-- The difference of exponent words has the difference of the fields. -/
theorem word_sub {n k : ℕ} (h : k ≤ n) (hn : n ≤ 255) : word n - word k = word (n - k) := by
  have : word n = word (n - k) + word k := by rw [word_add]; congr 1; omega
  rw [this, BitVec.add_sub_cancel]

/-- One step of the search: the word `w` is added where the sum's value does not exceed `t`. -/
def step (t : EReal) (w b : BitVec 32) : BitVec 32 := if t < val (b + w) then b else b + w

/-- The exponent field of `t`'s word, found from the top bit down. -/
def expBits (t : EReal) : BitVec 32 :=
  step t 8388608#32 (step t 16777216#32 (step t 33554432#32 (step t 67108864#32 (step t 134217728#32
    (step t 268435456#32 (step t 536870912#32 (step t 1073741824#32 0#32)))))))

/-- The word of the scale. -/
def scaleBits (t : EReal) : BitVec 32 :=
  if expBits t = 0#32 then 1065353216#32 else expBits t + 8388608#32

/-- The kernel's scale. -/
def kScale (t : EReal) : EReal := val (scaleBits t)

/-- The kernel's inverse scale. -/
def kInv (t : EReal) : EReal := val (2130706432#32 - scaleBits t)

/-- The reference's exponent: zero under the least normal number, else `floor (log2 t) + 1`. -/
def rExp (t : EReal) : EReal :=
  if t < val 8388608#32 then 0
  else Ideal.liftRound Int.floor (Ideal.div (Ideal.log t) ((Real.log 2 : ℝ) : EReal)) + 1

/-- What the search holds while the bits of weight below `k` are open: `b` is the word of `n` with
    `val (word n) ≤ t`, and `t` lies under the word of `n + k`. -/
def Inv (t : EReal) (k : ℕ) (b : BitVec 32) : Prop :=
  ∃ n, b = word n ∧ n + k ≤ 256 ∧ val (word n) ≤ t ∧ (n + k = 256 ∨ t < val (word (n + k)))

/-- One comparison halves the range in which the exponent field lies. -/
theorem inv_step {t : EReal} {k : ℕ} (hk : 0 < k) {b w : BitVec 32} (hw : w = word k) (h : Inv t (2 * k) b) :
    Inv t k (step t w b) := by
  obtain ⟨n, rfl, hn, hle, hlt⟩ := h
  subst hw
  unfold step
  rw [word_add]
  split
  · next hc => exact ⟨n, rfl, by omega, hle, .inr hc⟩
  · next hc =>
    refine ⟨n + k, rfl, by omega, not_lt.mp hc, ?_⟩
    rcases hlt with h | h
    · exact .inl (by omega)
    · right; rwa [show n + k + k = n + 2 * k by ring]

/-- The search ends at the word of the greatest exponent whose value does not exceed `t`. -/
theorem expBits_spec {t : EReal} (h0 : 0 ≤ t) : Inv t 1 (expBits t) := by
  have h : Inv t 256 0#32 := ⟨0, rfl, by omega, by rw [val_word (by omega)]; simpa using h0, .inl (by omega)⟩
  unfold expBits
  refine inv_step (by omega) rfl (inv_step (k := 2) (by omega) rfl (inv_step (k := 4) (by omega) rfl
    (inv_step (k := 8) (by omega) rfl (inv_step (k := 16) (by omega) rfl (inv_step (k := 32) (by omega) rfl
    (inv_step (k := 64) (by omega) rfl (inv_step (k := 128) (by omega) rfl h)))))))

/-- Two to an integer. -/
theorem exp2_int (z : ℤ) : Ideal.exp2 (((z : ℝ) : EReal)) = (((2 : ℝ) ^ z : ℝ) : EReal) := by
  show ((Real.rpow 2 (z : ℝ) : ℝ) : EReal) = _
  congr 1
  exact Real.rpow_intCast 2 z

/-- The floor of the binary logarithm of a number between two neighbouring powers of two. -/
theorem floor_log2 {r : ℝ} {z : ℤ} (h1 : (2 : ℝ) ^ z ≤ r) (h2 : r < (2 : ℝ) ^ (z + 1)) :
    Ideal.liftRound Int.floor (Ideal.div (Ideal.log (r : EReal)) ((Real.log 2 : ℝ) : EReal)) = ((z : ℝ) : EReal) := by
  have hr : 0 < r := lt_of_lt_of_le (by positivity) h1
  have hl : 0 < Real.log 2 := Real.log_pos (by norm_num)
  have e1 : Ideal.log (r : EReal) = ((Real.log r : ℝ) : EReal) := by
    show (if r ≤ 0 then (⊥ : EReal) else (Real.log r : EReal)) = _
    rw [if_neg (not_le.mpr hr)]
  have e2 : Ideal.div ((Real.log r : ℝ) : EReal) ((Real.log 2 : ℝ) : EReal) = ((Real.log r / Real.log 2 : ℝ) : EReal) := by
    unfold Ideal.div
    rw [if_neg (by exact_mod_cast hl.ne'), ← EReal.coe_inv, ← EReal.coe_mul, div_eq_mul_inv]
  rw [e1, e2]
  show (((⌊Real.log r / Real.log 2⌋ : ℤ) : ℝ) : EReal) = _
  congr 2
  rw [Int.floor_eq_iff]
  constructor
  · rw [le_div_iff₀ hl, ← Real.log_zpow]
    exact Real.log_le_log (by positivity) h1
  · rw [div_lt_iff₀ hl, show ((z : ℝ) + 1) = ((z + 1 : ℤ) : ℝ) by push_cast; ring, ← Real.log_zpow]
    exact Real.log_lt_log hr h2

/-- Both scales at once: a common exponent `z` with `kScale t = 2^z`, `kInv t = 2^(-z)` and `rExp t = z`. -/
theorem scale_spec {t : EReal} (h0 : 0 ≤ t) (h1 : t < (((2 : ℝ) ^ (126 : ℤ) : ℝ) : EReal)) :
    ∃ z : ℤ, kScale t = (((2 : ℝ) ^ z : ℝ) : EReal) ∧ kInv t = (((2 : ℝ) ^ (-z) : ℝ) : EReal)
      ∧ rExp t = ((z : ℝ) : EReal) := by
  obtain ⟨n, hb, hn, hle, hlt⟩ := expBits_spec h0
  have hn252 : n ≤ 252 := by
    by_contra hc
    have : val (word n) < (((2 : ℝ) ^ (126 : ℤ) : ℝ) : EReal) := lt_of_le_of_lt hle h1
    by_cases h255 : n = 255
    · rw [val_word (by omega), if_pos h255] at this
      exact absurd this (not_lt.mpr le_top)
    · rw [val_word_mid (by omega) (by omega)] at this
      have h2 := EReal.coe_lt_coe_iff.mp this
      have h3 := (zpow_lt_zpow_iff_right₀ (by norm_num : (1:ℝ) < 2)).mp h2
      omega
  have hlt' : t < val (word (n + 1)) := by
    rcases hlt with h | h
    · omega
    · exact h
  rw [val_word_mid (by omega) (by omega)] at hlt'
  have hzero : (expBits t = 0#32) ↔ n = 0 := by
    rw [hb]
    constructor
    · intro h
      have := congrArg BitVec.toNat h
      rw [word_toNat (by omega)] at this
      simp only [BitVec.toNat_ofNat] at this
      omega
    · rintro rfl; rfl
  have htiny : val 8388608#32 = (((2 : ℝ) ^ (-126 : ℤ) : ℝ) : EReal) := by
    rw [show (8388608#32) = word 1 from rfl, val_word_mid (by omega) (by omega)]; norm_num
  by_cases hz : n = 0
  · refine ⟨0, ?_, ?_, ?_⟩
    · unfold kScale scaleBits
      rw [if_pos (hzero.mpr hz), show (1065353216#32) = word 127 from rfl, val_word_mid (by omega) (by omega)]
      norm_num
    · unfold kInv scaleBits
      rw [if_pos (hzero.mpr hz), show (2130706432#32 - 1065353216#32) = word 127 from rfl,
        val_word_mid (by omega) (by omega)]
      norm_num
    · unfold rExp
      rw [htiny, if_pos]
      · simp
      · subst hz; simpa using hlt'
  · have hmid := val_word_mid (n := n) (by omega) (by omega)
    rw [hmid] at hle
    refine ⟨(n : ℤ) - 126, ?_, ?_, ?_⟩
    · unfold kScale scaleBits
      rw [if_neg (by rw [hzero]; exact hz), hb, show (8388608#32) = word 1 from rfl, word_add,
        val_word_mid (by omega) (by omega)]
      congr 2; push_cast; ring
    · unfold kInv scaleBits
      rw [if_neg (by rw [hzero]; exact hz), hb, show (8388608#32) = word 1 from rfl, word_add,
        show (2130706432#32) = word 254 from rfl, word_sub (by omega) (by omega), val_word_mid (by omega) (by omega)]
      congr 2
      rw [Nat.cast_sub (by omega)]; push_cast; ring
    · unfold rExp
      have hge : ¬ t < val 8388608#32 := by
        rw [htiny, not_lt]
        refine le_trans ?_ hle
        rw [EReal.coe_le_coe_iff]
        exact zpow_le_zpow_right₀ (by norm_num) (by omega)
      rw [if_neg hge]
      have htop : t ≠ ⊤ := ne_top_of_lt h1
      have hbot : t ≠ ⊥ := ne_bot_of_gt (lt_of_lt_of_le EReal.bot_lt_zero h0)
      lift t to ℝ using ⟨htop, hbot⟩
      have a1 := EReal.coe_le_coe_iff.mp hle
      have a2 := EReal.coe_lt_coe_iff.mp hlt'
      rw [floor_log2 (z := (n : ℤ) - 127) a1 (by convert a2 using 2; push_cast; ring)]
      rw [show (1 : EReal) = ((1 : ℝ) : EReal) from rfl, ← EReal.coe_add]
      congr 1; push_cast; ring

/-- The kernel's scale is the reference's. -/
theorem kScale_eq {t : EReal} (h0 : 0 ≤ t) (h1 : t < (((2 : ℝ) ^ (126 : ℤ) : ℝ) : EReal)) :
    kScale t = Ideal.exp2 (rExp t) := by
  obtain ⟨z, e1, _, e3⟩ := scale_spec h0 h1
  rw [e1, e3, exp2_int]

/-- The kernel's inverse scale is the reference's. -/
theorem kInv_eq {t : EReal} (h0 : 0 ≤ t) (h1 : t < (((2 : ℝ) ^ (126 : ℤ) : ℝ) : EReal)) :
    kInv t = Ideal.exp2 (0 - rExp t) := by
  obtain ⟨z, _, e2, e3⟩ := scale_spec h0 h1
  rw [e2, e3, zero_sub, ← EReal.coe_neg, show (-(z : ℝ)) = ((-z : ℤ) : ℝ) by push_cast; ring, exp2_int]

end Mla

end

end
-- ==== Proof.Spec.lean ====
module

public import proofs.«01_k».proof.Proof.Scale

@[expose] public section

noncomputable section

/-! # The projection of one token, on rows

A token is a row `h` of 4096 numbers. Its norm, the greatest magnitude of each group of 128, the codes, the dequantised
codes, the products with the dequantised weights and the norms of the two latent parts are written here once, over any
pair of functions `S`, `I` that give a group's scale and inverse scale. With the kernel's pair and with the reference's
pair they are equal where `γ` is finite. -/

namespace Mla

open Idealize.ShloMosaic

/-- Column `k` of group `g`. -/
def col (g : Fin 32) (k : Fin 128) : Fin 4096 := ⟨g.val * 128 + k.val, by have := g.isLt; have := k.isLt; omega⟩

/-- The group a column lies in. -/
def grp (k : Fin 4096) : Fin 32 := ⟨k.val / 128, by have := k.isLt; omega⟩

/-- The row block of 128 a weight row lies in. -/
def rowBlk (n : Fin 2112) : Fin 17 := ⟨n.val / 128, by have := n.isLt; omega⟩

/-- The reciprocal root mean square of a row. -/
def rinv (h : Fin 4096 → EReal) : EReal :=
  Ideal.rsqrt (Ideal.div (∑ x, h x * h x) (val 1166016512#32) + val 897988541#32)

/-- The normed row. -/
def xn (h γ : Fin 4096 → EReal) (k : Fin 4096) : EReal := h k * rinv h * γ k

/-- The greatest magnitude of a group, over 448. -/
def tg (h γ : Fin 4096 → EReal) (g : Fin 32) : EReal :=
  Finset.univ.fold max (val 4286578688#32) (fun k : Fin 128 => max (xn h γ (col g k)) (-xn h γ (col g k)))
    * val 991054117#32

/-- The code of `x` under the inverse scale `i`: the product clipped to ±448. -/
def code (i x : EReal) : EReal := min (val 1138753536#32) (max (val 3286237184#32) (x * i))

/-- The row's codes. -/
def codes (I : EReal → EReal) (h γ : Fin 4096 → EReal) (k : Fin 4096) : EReal := code (I (tg h γ (grp k))) (xn h γ k)

/-- The row's dequantised codes. -/
def xd (S I : EReal → EReal) (h γ : Fin 4096 → EReal) (k : Fin 4096) : EReal := codes I h γ k * S (tg h γ (grp k))

/-- The dequantised weights. -/
def wd (W : Fin 2112 → Fin 4096 → EReal) (s : Fin 17 → Fin 32 → EReal) (n : Fin 2112) (k : Fin 4096) : EReal :=
  W n k * s (rowBlk n) (grp k)

/-- The product of the dequantised row and the weights `w`. -/
def yr (S I : EReal → EReal) (h γ : Fin 4096 → EReal) (w : Fin 2112 → Fin 4096 → EReal) (n : Fin 2112) : EReal :=
  ∑ k, xd S I h γ k * w n k

/-- The norm of a row of `n` numbers whose length is the word `d`, with the weights `γ`. -/
def nrm {n : ℕ} (d : BitVec 32) (y γ : Fin n → EReal) (j : Fin n) : EReal :=
  y j * Ideal.rsqrt (Ideal.div (∑ x, y x * y x) (val d) + val 897988541#32) * γ j

/-- Column `j` of the query part. -/
def qcol (j : Fin 1536) : Fin 2112 := ⟨j.val, by have := j.isLt; omega⟩

/-- Column `j` of the key-value part. -/
def kvcol (j : Fin 512) : Fin 2112 := ⟨1536 + j.val, by have := j.isLt; omega⟩

/-- Column `j` of the rotary part. -/
def pecol (j : Fin 64) : Fin 2112 := ⟨2048 + j.val, by have := j.isLt; omega⟩

/-- The reference's scale. -/
def rScale (t : EReal) : EReal := Ideal.exp2 (rExp t)

/-- The reference's inverse scale. -/
def rInv (t : EReal) : EReal := Ideal.exp2 (0 - rExp t)

/-! ## The constants -/

/-- The constant 4096. -/
theorem val_4096 : val 1166016512#32 = ((4096 : ℝ) : EReal) := by
  rw [show (1166016512#32) = word 139 from rfl, val_word_mid (by omega) (by omega)]; norm_num

/-- The constant 1/4096. -/
theorem val_inv4096 : val 964689920#32 = ((1 / 4096 : ℝ) : EReal) := by
  rw [show (964689920#32) = word 115 from rfl, val_word_mid (by omega) (by omega)]
  congr 1; norm_num

/-- What a word of sign bit 0, exponent field `n` and fraction field `f` denotes, for a normal number. -/
theorem val_normal {b : BitVec 32} (n f : ℕ) (hs : b.extractLsb' 31 1 = 0#1) (he : (b.extractLsb' 23 8).toNat = n)
    (hf : (b.extractLsb' 0 23).toNat = f) (h0 : n ≠ 0) (h1 : n ≠ 255) :
    val b = ((((8388608 + f : ℕ) : ℝ) * (2 : ℝ) ^ ((n : ℤ) - 150) : ℝ) : EReal) := by
  show Ideal.ieee 8 23 b = _
  unfold Ideal.ieee
  simp only [Nat.reduceAdd, hs, he, hf]
  rw [if_neg (by simpa using h1), if_neg h0]
  congr 1
  rw [if_neg (by decide), one_mul]
  congr 2
  norm_num
  ring

/-- The constant minus infinity. -/
theorem val_bot : val 4286578688#32 = ⊥ := by
  show Ideal.ieee 8 23 (4286578688#32) = _
  unfold Ideal.ieee
  simp only [Nat.reduceAdd, show (4286578688#32).extractLsb' 31 1 = 1#1 from rfl,
    show ((4286578688#32).extractLsb' 23 8).toNat = 255 from rfl, show ((4286578688#32).extractLsb' 0 23).toNat = 0 from rfl]
  norm_num

/-- The constant added under the root is a positive real. -/
theorem val_eps : ∃ e : ℝ, val 897988541#32 = (e : EReal) ∧ 0 < e :=
  ⟨_, val_normal 107 407485 rfl rfl rfl (by omega) (by omega), by positivity⟩

/-- The constant 1/448 is a positive real below 2^-8. -/
theorem val_c448 : ∃ e : ℝ, val 991054117#32 = (e : EReal) ∧ 0 < e ∧ e < (2 : ℝ) ^ (-8 : ℤ) :=
  ⟨_, val_normal 118 1198373 rfl rfl rfl (by omega) (by omega), by positivity, by norm_num⟩

/-! ## Both scales agree where `γ` is finite -/

/-- An entry times its row's reciprocal root mean square is a real of magnitude at most 64. -/
theorem normed_bound (h : Fin 4096 → EReal) (k : Fin 4096) : ∃ q : ℝ, h k * rinv h = (q : EReal) ∧ |q| ≤ 64 := by
  have hnn : ∀ x, 0 ≤ h x * h x := fun x => by
    rcases le_total 0 (h x) with h0 | h0
    · exact mul_nonneg h0 h0
    · exact EReal.mul_nonneg_iff.mpr (.inr ⟨h0, h0⟩)
  have hs : h k * h k ≤ ∑ x, h x * h x := Finset.single_le_sum (fun x _ => hnn x) (Finset.mem_univ k)
  have hs0 : 0 ≤ ∑ x, h x * h x := Finset.sum_nonneg fun x _ => hnn x
  obtain ⟨e, he, hepos⟩ := val_eps
  unfold rinv
  rw [val_4096, Ideal.div_coe (by norm_num), he]
  generalize ∑ x, h x * h x = s at hs hs0
  induction s using EReal.rec with
  | bot => simp at hs0
  | top =>
    refine ⟨0, ?_, by norm_num⟩
    rw [EReal.top_mul_coe_of_pos (by norm_num), EReal.top_add_coe, Ideal.rsqrt_top, mul_zero, EReal.coe_zero]
  | coe r =>
    have hr : 0 ≤ r := by exact_mod_cast hs0
    have hpos : 0 < r * (1 / 4096) + e := by positivity
    rw [← EReal.coe_mul, ← EReal.coe_add, Ideal.rsqrt_coe, if_neg (not_lt.mpr hpos.le), if_neg hpos.ne']
    generalize h k = a at hs
    induction a using EReal.rec with
    | bot => simp at hs
    | top => simp at hs
    | coe a =>
      refine ⟨_, (EReal.coe_mul _ _).symm, ?_⟩
      rw [← EReal.coe_mul, EReal.coe_le_coe_iff] at hs
      have hsq : 0 < Real.sqrt (r * (1 / 4096) + e) := Real.sqrt_pos.mpr hpos
      rw [abs_mul, abs_inv, abs_of_pos hsq, ← div_eq_mul_inv, div_le_iff₀ hsq]
      have h1 : |a| ≤ Real.sqrt r := by
        rw [← Real.sqrt_sq_eq_abs]; exact Real.sqrt_le_sqrt (by nlinarith)
      have h2 : Real.sqrt r ≤ Real.sqrt (64 ^ 2 * (r * (1 / 4096) + e)) := Real.sqrt_le_sqrt (by nlinarith)
      rw [Real.sqrt_mul (by norm_num), Real.sqrt_sq (by norm_num)] at h2
      exact h1.trans h2

/-- The entries of `γ` are real numbers below `2^128` in magnitude. -/
def Fin128 (γ : Fin 4096 → EReal) : Prop := ∀ k, ∃ g : ℝ, γ k = (g : EReal) ∧ |g| ≤ (2 : ℝ) ^ (128 : ℤ)

/-- A maximum, from `⊥`, over reals between 0 and `B` is a real between 0 and `B`. -/
theorem fold_max_bound {n : ℕ} (hn : 0 < n) (f : Fin n → EReal) (B : ℝ)
    (hf : ∀ k, 0 ≤ f k ∧ f k ≤ (B : EReal)) :
    0 ≤ Finset.univ.fold max ⊥ f ∧ Finset.univ.fold max ⊥ f ≤ (B : EReal) := by
  constructor
  · rw [Finset.le_fold_max]
    exact .inr ⟨⟨0, hn⟩, Finset.mem_univ _, (hf _).1⟩
  · rw [Finset.fold_max_le]
    exact ⟨bot_le, fun k _ => (hf k).2⟩

/-- Over a finite `γ` every group's magnitude over 448 is at least 0 and below `2^126`. -/
theorem tg_bound {γ : Fin 4096 → EReal} (hγ : Fin128 γ) (h : Fin 4096 → EReal) (g : Fin 32) :
    0 ≤ tg h γ g ∧ tg h γ g < (((2 : ℝ) ^ (126 : ℤ) : ℝ) : EReal) := by
  obtain ⟨c, hc, hc0, hc1⟩ := val_c448
  unfold tg
  rw [val_bot, hc]
  have hb := fold_max_bound (n := 128) (by omega) (fun k => max (xn h γ (col g k)) (-xn h γ (col g k)))
    ((2 : ℝ) ^ (134 : ℤ)) (fun k => by
      obtain ⟨q, hq, hq1⟩ := normed_bound h (col g k)
      obtain ⟨r, hr, hr1⟩ := hγ (col g k)
      have e1 : xn h γ (col g k) = ((q * r : ℝ) : EReal) := by unfold xn; rw [hq, hr, EReal.coe_mul]
      have e2 : |q * r| ≤ (2 : ℝ) ^ (134 : ℤ) := by
        rw [abs_mul, show (2 : ℝ) ^ (134 : ℤ) = 64 * (2 : ℝ) ^ (128 : ℤ) by norm_num]
        exact mul_le_mul hq1 hr1 (abs_nonneg _) (by norm_num)
      obtain ⟨e3, e4⟩ := abs_le.mp e2
      rw [e1, ← EReal.coe_neg]
      refine ⟨?_, max_le (EReal.coe_le_coe_iff.mpr e4) (EReal.coe_le_coe_iff.mpr (by linarith))⟩
      rcases le_total 0 (q * r) with h0 | h0
      · exact le_max_of_le_left (by exact_mod_cast h0)
      · exact le_max_of_le_right (by exact_mod_cast neg_nonneg.mpr h0))
  generalize Finset.univ.fold max ⊥ (fun k => max (xn h γ (col g k)) (-xn h γ (col g k))) = a at hb
  obtain ⟨b0, b1⟩ := hb
  induction a using EReal.rec with
  | bot => simp at b0
  | top => exact absurd b1 (not_le.mpr (EReal.coe_lt_top _))
  | coe a =>
    have b0' : 0 ≤ a := by exact_mod_cast b0
    have b1' : a ≤ (2 : ℝ) ^ (134 : ℤ) := by exact_mod_cast b1
    rw [← EReal.coe_mul]
    constructor
    · exact_mod_cast mul_nonneg b0' hc0.le
    · rw [EReal.coe_lt_coe_iff]
      calc a * c ≤ (2 : ℝ) ^ (134 : ℤ) * c := mul_le_mul_of_nonneg_right b1' hc0.le
        _ < (2 : ℝ) ^ (134 : ℤ) * (2 : ℝ) ^ (-8 : ℤ) := mul_lt_mul_of_pos_left hc1 (by positivity)
        _ = (2 : ℝ) ^ (126 : ℤ) := by norm_num

/-- The kernel's scale of a group is the reference's. -/
theorem scale_tg {γ : Fin 4096 → EReal} (hγ : Fin128 γ) (h : Fin 4096 → EReal) (g : Fin 32) :
    kScale (tg h γ g) = rScale (tg h γ g) := kScale_eq (tg_bound hγ h g).1 (tg_bound hγ h g).2

/-- The kernel's inverse scale of a group is the reference's. -/
theorem inv_tg {γ : Fin 4096 → EReal} (hγ : Fin128 γ) (h : Fin 4096 → EReal) (g : Fin 32) :
    kInv (tg h γ g) = rInv (tg h γ g) := kInv_eq (tg_bound hγ h g).1 (tg_bound hγ h g).2

/-- The kernel's codes are the reference's. -/
theorem codes_eq {γ : Fin 4096 → EReal} (hγ : Fin128 γ) (h : Fin 4096 → EReal) (k : Fin 4096) :
    codes kInv h γ k = codes rInv h γ k := by unfold codes; rw [inv_tg hγ]

/-- The kernel's products are the reference's. -/
theorem yr_eq {γ : Fin 4096 → EReal} (hγ : Fin128 γ) (h : Fin 4096 → EReal) (w : Fin 2112 → Fin 4096 → EReal) :
    yr kScale kInv h γ w = yr rScale rInv h γ w := by
  funext n
  unfold yr xd
  exact Finset.sum_congr rfl fun k _ => by rw [codes_eq hγ, scale_tg hγ]

end Mla

end
-- ==== Proof.Stage.lean ====
module

public import proofs.«01_k».proof.Proof.Gen.KernelIdeal.Value
public import proofs.«01_k».proof.Proof.Spec
public import Idealize.ShloMosaic.Lib.Pointwise

@[expose] public section

set_option maxRecDepth 16384

noncomputable section

/-! # One group of 128 columns in a block of 256 tokens

The vector operations that the kernel applies to a group, once for all groups, and what each leaves at an index. -/

namespace Mla

open Idealize.ShloMosaic Cert.KernelIdeal Cert.KernelIdeal.Gen

/-- A group of a block, widened. -/
def hV (v : Vec Ideal S256x128 .bf16) : FVec Ideal S256x128 .f32 :=
  extf .f32 (shapeCast S256x128 v shapeCasts_S256x128_S256x128) bitsLt_bf16_f32

/-- The normed group, from the rows' reciprocal root mean squares `r` and the weights `g`. -/
def xV (r : FVec Ideal S256x1 .f32) (v : Vec Ideal S256x128 .bf16) (g : Vec Ideal S1x128 .bf16) : FVec Ideal S256x128 .f32 :=
  extf .f32 (truncf .bf16 (mulf (mulf (hV v) (broadcastTo S256x128 r broadcasts_S256x1_S256x128))
    (broadcastTo S256x128 (extf .f32 (shapeCast S1x128 g shapeCasts_S1x128_S1x128) bitsLt_bf16_f32) broadcasts_S1x128_S256x128))
    bitsLt_bf16_f32) bitsLt_bf16_f32

/-- The rows' greatest magnitudes in the group, over 448. -/
def tV (x : FVec Ideal S256x128 .f32) : FVec Ideal S256x1 .f32 :=
  mulf (shapeCast S256x1 (multiReduction .maximumf [1] S256 (absf x) 0xFF800000#32 reduces_S256x128_S256 (.inl rfl) rfl)
    shapeCasts_S256_S256x1) (broadcast S256x1 (Scalar.ofBits .f32 0x3B124925#32))

/-- One step of the search for the exponent field. -/
def stepV (t : FVec Ideal S256x1 .f32) (w : BitVec 32) (b : IVec S256x1 32) : IVec S256x1 32 :=
  select (cmpf .olt t (bitcastToFloat .f32 (addi b (broadcast S256x1 w)))) b (addi b (broadcast S256x1 w))

/-- The exponent field. -/
def bitsV (t : FVec Ideal S256x1 .f32) : IVec S256x1 32 :=
  stepV t 8388608#32 (stepV t 16777216#32 (stepV t 33554432#32 (stepV t 67108864#32 (stepV t 134217728#32
    (stepV t 268435456#32 (stepV t 536870912#32 (stepV t 1073741824#32 (broadcast S256x1 0#32))))))))

/-- The scale's word. -/
def sbV (t : FVec Ideal S256x1 .f32) : IVec S256x1 32 :=
  select (cmpi .eq (bitsV t) (broadcast S256x1 0#32)) (broadcast S256x1 1065353216#32)
    (addi (bitsV t) (broadcast S256x1 8388608#32))

/-- The scale. -/
def scaleV (t : FVec Ideal S256x1 .f32) : FVec Ideal S256x1 .f32 := bitcastToFloat .f32 (sbV t)

/-- The inverse scale. -/
def invV (t : FVec Ideal S256x1 .f32) : FVec Ideal S256x1 .f32 :=
  bitcastToFloat .f32 (subi (broadcast S256x1 2130706432#32) (sbV t))

/-- The group's codes. -/
def codesV (x : FVec Ideal S256x128 .f32) : FVec Ideal S256x128 .fp8e4m3 :=
  truncf .fp8e4m3 (minimumf (broadcast S256x128 (Scalar.ofBits .f32 0x43E00000#32))
    (maximumf (broadcast S256x128 (Scalar.ofBits .f32 0xC3E00000#32))
      (mulf x (broadcastTo S256x128 (invV (tV x)) broadcasts_S256x1_S256x128)))) bitsLt_fp8e4m3_f32

/-- The group's dequantised codes. -/
def xdV (x : FVec Ideal S256x128 .f32) : FVec Ideal S256x128 .bf16 :=
  shapeCast S256x128 (mulf (extf .bf16 (codesV x) bitsLt_fp8e4m3_bf16)
    (broadcastTo S256x128 (truncf .bf16 (scaleV (tV x)) bitsLt_bf16_f32) broadcasts_S256x1_S256x128))
    shapeCasts_S256x128_S256x128

/-- The sum over the first `n` groups of their squares. -/
def accV (v : Fin 32 → Vec Ideal S256x128 .bf16) : (n : ℕ) → n ≤ 32 → FVec Ideal S256x128 .f32
  | 0, _ => broadcast S256x128 (Scalar.ofBits .f32 0x00000000#32)
  | n + 1, h => addf (accV v n (Nat.le_of_succ_le h)) (mulf (hV (v ⟨n, h⟩)) (hV (v ⟨n, h⟩)))

/-- The rows' reciprocal root mean squares. -/
def rV (v : Fin 32 → Vec Ideal S256x128 .bf16) : FVec Ideal S256x1 .f32 :=
  rsqrt (addf (mulf (shapeCast S256x1 (multiReduction .add [1] S256 (accV v 32 (Nat.le_refl 32)) 0x00000000#32
    reduces_S256x128_S256 (.inl rfl) rfl) shapeCasts_S256_S256x1) (broadcast S256x1 (Scalar.ofBits .f32 0x39800000#32)))
    (broadcast S256x1 (Scalar.ofBits .f32 0x358637BD#32)))

/-- The normed group `g` of a block given by its groups `v` and of weights given by theirs. -/
def xG (v : Fin 32 → Vec Ideal S256x128 .bf16) (γ : Fin 32 → Vec Ideal S1x128 .bf16) (g : Fin 32) : FVec Ideal S256x128 .f32 :=
  xV (rV v) (v g) (γ g)

/-- A group of 128 columns lies within the 4096. -/
theorem inb_group {m : ℕ} (g : Fin 32) (a : Fin 2) :
    (![0, g.val * 128] : Fin 2 → ℕ) a + (![m, 128] : Fin 2 → ℕ) a ≤ (![m, 4096] : Fin 2 → ℕ) a := by
  have := g.isLt
  fin_cases a
  · show 0 + m ≤ m; omega
  · show g.val * 128 + 128 ≤ 4096; omega

/-- Group `g`'s columns in a block of tokens. -/
def rectH (g : Fin 32) : Rect S256x4096 := Rect.unit (s := S256x4096) ![0, g.val * 128] S256x128.size (inb_group g)

/-- Group `g`'s columns in the weights `γ`. -/
def rectG (g : Fin 32) : Rect S1x4096 := Rect.unit (s := S1x4096) ![0, g.val * 128] S1x128.size (inb_group g)

/-- The codes' pieces, last first. -/
def codesL (v : Fin 32 → Vec Ideal S256x128 .bf16) (γ : Fin 32 → Vec Ideal S1x128 .bf16) :
    List (View.Piece (Elt Ideal) S256x4096 .fp8e4m3) :=
  List.ofFn fun i : Fin 32 => ⟨rectH i.rev, codesV (xG v γ i.rev)⟩

/-- The dequantised codes' pieces, last first. -/
def xdL (v : Fin 32 → Vec Ideal S256x128 .bf16) (γ : Fin 32 → Vec Ideal S1x128 .bf16) :
    List (View.Piece (Elt Ideal) S256x4096 .bf16) :=
  List.ofFn fun i : Fin 32 => ⟨rectH i.rev, xdV (xG v γ i.rev)⟩

/-- The scales of a block, its columns side by side. -/
def scalesV (v : Fin 32 → Vec Ideal S256x128 .bf16) (γ : Fin 32 → Vec Ideal S1x128 .bf16) : FVec Ideal S256x32 .f32 :=
  concatenate S256x32 1 (List.ofFn fun i : Fin 32 => ⟨S256x1, scaleV (tV (xG v γ i))⟩) concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

/-- The absolute value at the extended reals. -/
theorem absf_ideal (x : EReal) : (FloatOps.absf (F := Ideal) (φ := .f32) x : EReal) = max x (-x) := rfl

/-- A group's normed tokens, entry by entry. -/
theorem xV_apply (r : FVec Ideal S256x1 .f32) (v : Vec Ideal S256x128 .bf16) (g : Vec Ideal S1x128 .bf16) (s : Fin 256)
    (k : Fin 128) : xV r v g (ix2 s k) = v (ix2 s k) * r (ix2 s 0) * g (ix2 0 k) := by
  pointwise [xV, hV]

/-- A group's quotient: its greatest absolute value times the constant 1/448. -/
theorem tV_apply (x : FVec Ideal S256x128 .f32) (s : Fin 256) :
    tV x (ix2 s 0) = Finset.univ.fold max (val 4286578688#32) (fun k : Fin 128 => max (x (ix2 s k)) (-x (ix2 s k)))
      * val 991054117#32 := by
  pointwise [tV]
  rfl

/-- One comparison of the exponent search, entry by entry. -/
theorem stepV_apply (t : FVec Ideal S256x1 .f32) (w : BitVec 32) (b : IVec S256x1 32) (s : Fin 256) :
    stepV t w b (ix2 s 0) = step (t (ix2 s 0)) w (b (ix2 s 0)) := by
  pointwise [stepV]
  rfl

/-- The exponent field, entry by entry. -/
theorem bitsV_apply (t : FVec Ideal S256x1 .f32) (s : Fin 256) : bitsV t (ix2 s 0) = expBits (t (ix2 s 0)) := by
  unfold bitsV expBits
  simp only [stepV_apply]
  rfl

/-- The scale's word, entry by entry. -/
theorem sbV_apply (t : FVec Ideal S256x1 .f32) (s : Fin 256) : sbV t (ix2 s 0) = scaleBits (t (ix2 s 0)) := by
  unfold sbV scaleBits
  rw [← bitsV_apply]
  generalize bitsV t = b
  pointwise []
  by_cases h : b (ix2 s 0) = 0#32
  · rw [if_pos h, h]; rfl
  · rw [if_neg h]
    simp only [IntOp.cmpi, Scalar.select, BitVec.ofBool, beq_eq_false_iff_ne.mpr h]
    rfl

/-- The scale, entry by entry. -/
theorem scaleV_apply (t : FVec Ideal S256x1 .f32) (s : Fin 256) : scaleV t (ix2 s 0) = kScale (t (ix2 s 0)) := by
  unfold scaleV kScale
  rw [← sbV_apply]
  rfl

/-- The inverse scale, entry by entry. -/
theorem invV_apply (t : FVec Ideal S256x1 .f32) (s : Fin 256) : invV t (ix2 s 0) = kInv (t (ix2 s 0)) := by
  unfold invV kInv
  rw [← sbV_apply]
  rfl

/-- The codes, entry by entry. -/
theorem codesV_apply (x : FVec Ideal S256x128 .f32) (s : Fin 256) (k : Fin 128) :
    codesV x (ix2 s k) = code (kInv (tV x (ix2 s 0))) (x (ix2 s k)) := by
  unfold codesV
  rw [← invV_apply]
  generalize invV (tV x) = i
  pointwise []
  rfl

/-- The dequantised tokens, entry by entry. -/
theorem xdV_apply (x : FVec Ideal S256x128 .f32) (s : Fin 256) (k : Fin 128) :
    xdV x (ix2 s k) = code (kInv (tV x (ix2 s 0))) (x (ix2 s k)) * kScale (tV x (ix2 s 0)) := by
  unfold xdV
  rw [← codesV_apply, ← scaleV_apply]
  generalize codesV x = c
  generalize scaleV (tV x) = sc
  pointwise []

/-- The running sum of squares after some of the groups, entry by entry. -/
theorem accV_apply (v : Fin 32 → Vec Ideal S256x128 .bf16) (s : Fin 256) (k : Fin 128) (n : ℕ) (hn : n ≤ 32) :
    accV v n hn (ix2 s k) = ∑ g : Fin n, v (g.castLE hn) (ix2 s k) * v (g.castLE hn) (ix2 s k) := by
  induction n with
  | zero => unfold accV; pointwise []; simp
  | succ n ih =>
    rw [Fin.sum_univ_castSucc, accV]
    have h := ih (Nat.le_of_succ_le hn)
    generalize accV v n _ = a at h ⊢
    rw [show (∑ g : Fin n, v (g.castSucc.castLE hn) (ix2 s k) * v (g.castSucc.castLE hn) (ix2 s k)) = a (ix2 s k) from h.symm]
    pointwise [hV]
    rfl

/-- A sum over the groups and the columns of each is the sum over all columns. -/
theorem sum_groups (f : Fin 4096 → EReal) : ∑ k : Fin 128, ∑ g : Fin 32, f (col g k) = ∑ x, f x := by
  rw [Finset.sum_comm, ← Fintype.sum_prod_type' (f := fun g k => f (col g k))]
  refine Fintype.sum_equiv (finProdFinEquiv (m := 32) (n := 128)) _ f fun p => ?_
  congr 1
  apply Fin.ext
  show p.1.val * 128 + p.2.val = p.2.val + 128 * p.1.val
  omega

/-- The chain of group sums and the lane sum give the row's reciprocal root mean square. -/
theorem rV_apply (v : Fin 32 → Vec Ideal S256x128 .bf16) (h : Fin 4096 → EReal) (s : Fin 256)
    (hv : ∀ g k, v g (ix2 s k) = h (col g k)) : rV v (ix2 s 0) = rinv h := by
  unfold rV rinv
  have ha := fun k => accV_apply v s k 32 (Nat.le_refl 32)
  generalize accV v 32 _ = a at ha
  pointwise []
  have e : (∑ k : Fin 128, a (ix2 s k)) = ∑ x, h x * h x := by
    rw [← sum_groups fun x => h x * h x]
    refine Finset.sum_congr rfl fun k _ => ?_
    rw [ha]
    exact Finset.sum_congr rfl fun g _ => by rw [hv]; rfl
  rw [e, val_4096, Ideal.div_coe (by norm_num), ← val_inv4096]
  rfl

/-- The scales at an index. -/
theorem scalesV_apply (v : Fin 32 → Vec Ideal S256x128 .bf16) (γ : Fin 32 → Vec Ideal S1x128 .bf16) (s : Fin 256)
    (g : Fin 32) : scalesV v γ (ix2 s g) = scaleV (tV (xG v γ g)) (ix2 s 0) := by
  unfold scalesV
  exact concatenate_ofFn_unit_apply (t := S256x32) (s₁ := S256x1) 1 (fun i : Fin 32 => scaleV (tV (xG v γ i))) _ rfl rfl (ix2 s g) g rfl (ix2 s 0)
    fun b hb => by
      fin_cases b
      · rfl
      · exact absurd rfl hb

end Mla

end
-- ==== Proof.Weights.lean ====
module

public import proofs.«01_k».proof.Proof.Stage

@[expose] public section

set_option maxRecDepth 16384

noncomputable section

/-! # The weights dequantised, block by block -/

namespace Mla

open Idealize.ShloMosaic Cert.KernelIdeal Cert.KernelIdeal.Gen

/-- A block of 128 by 128 weights times its scale. -/
def wV (w : Vec Ideal S128x128 .fp8e4m3) (s : Ideal .f32) : FVec Ideal S128x128 .bf16 :=
  shapeCast S128x128 (mulf (extf .bf16 w bitsLt_fp8e4m3_bf16)
    (truncf .bf16 (broadcast S128x128 s) bitsLt_bf16_f32)) shapeCasts_S128x128_S128x128

/-- A block of 64 by 128 weights times its scale. -/
def wV' (w : Vec Ideal S64x128 .fp8e4m3) (s : Ideal .f32) : FVec Ideal S64x128 .bf16 :=
  shapeCast S64x128 (mulf (extf .bf16 w bitsLt_fp8e4m3_bf16)
    (truncf .bf16 (broadcast S64x128 s) bitsLt_bf16_f32)) shapeCasts_S64x128_S64x128

/-- A full block lies within the array of projection codes. -/
theorem inb_w (n : Fin 16) (g : Fin 32) (a : Fin 2) :
    (![n.val * 128, g.val * 128] : Fin 2 → ℕ) a + (![128, 128] : Fin 2 → ℕ) a ≤ (![2112, 4096] : Fin 2 → ℕ) a := by
  have := g.isLt
  have := n.isLt
  fin_cases a
  · show n.val * 128 + 128 ≤ 2112; omega
  · show g.val * 128 + 128 ≤ 4096; omega

/-- A short last block lies within the array of projection codes. -/
theorem inb_w' (g : Fin 32) (a : Fin 2) :
    (![2048, g.val * 128] : Fin 2 → ℕ) a + (![64, 128] : Fin 2 → ℕ) a ≤ (![2112, 4096] : Fin 2 → ℕ) a := by
  have := g.isLt
  fin_cases a
  · show 2048 + 64 ≤ 2112; omega
  · show g.val * 128 + 128 ≤ 4096; omega

/-- A single scale lies within the array of scales. -/
theorem inb_s (n : Fin 17) (g : Fin 32) (a : Fin 2) :
    (![n.val, g.val] : Fin 2 → ℕ) a + (![1, 1] : Fin 2 → ℕ) a ≤ (![17, 32] : Fin 2 → ℕ) a := by
  have := g.isLt
  have := n.isLt
  fin_cases a
  · show n.val + 1 ≤ 17; omega
  · show g.val + 1 ≤ 32; omega

/-- Row block `n`, column block `g` of the weights. -/
def rectW (n : Fin 16) (g : Fin 32) : Rect S2112x4096 := Rect.unit (s := S2112x4096) ![n.val * 128, g.val * 128] S128x128.size (inb_w n g)

/-- The last row block's column block `g` of the weights. -/
def rectW' (g : Fin 32) : Rect S2112x4096 := Rect.unit (s := S2112x4096) ![2048, g.val * 128] S64x128.size (inb_w' g)

/-- The place of one scale. -/
def rectS (n : Fin 17) (g : Fin 32) : Rect S17x32 := Rect.unit (s := S17x32) ![n.val, g.val] S1x1.size (inb_s n g)

/-- The row block of the `i`th block of weights in the order they are dequantised. -/
def wrow (i : Fin 512) : Fin 16 := ⟨i.val / 32, by have := i.isLt; omega⟩

/-- Its column block. -/
def wcol (i : Fin 512) : Fin 32 := ⟨i.val % 32, by omega⟩

/-- The dequantised weights' pieces, last first. -/
def wdL (w : (n : Fin 16) → (g : Fin 32) → Vec Ideal S128x128 .fp8e4m3) (w' : Fin 32 → Vec Ideal S64x128 .fp8e4m3)
    (s : Fin 17 → Fin 32 → Ideal .f32) : List (View.Piece (Elt Ideal) S2112x4096 .bf16) :=
  (List.ofFn fun i : Fin 32 => ⟨rectW' i.rev, wV' (w' i.rev) (s 16 i.rev)⟩)
    ++ List.ofFn fun i : Fin 512 => ⟨rectW (wrow i.rev) (wcol i.rev),
      wV (w (wrow i.rev) (wcol i.rev)) (s (wrow i.rev).castSucc (wcol i.rev))⟩

end Mla

end
-- ==== Proof.Result.lean ====
module

public import proofs.«01_k».proof.Proof.Spec
public import Idealize.ShloMosaic.Lib.Pointwise

@[expose] public section

noncomputable section

/-! # The five results, as arrays

Over any pair `S`, `I` that gives a group's scale and inverse scale. -/

namespace Mla

open Idealize.ShloMosaic

/-- Row `s` of a matrix. -/
def row {m n : ℕ} (x : (⟨2, ![m, n]⟩ : Shape).Idx → EReal) (s : Fin m) (k : Fin n) : EReal := x (ix2 s k)

/-- The arrays of numbers with `m` rows and `n` columns. -/
abbrev Arr (m n : ℕ) : Type := (⟨2, ![m, n]⟩ : Shape).Idx → EReal

/-- The query part. -/
def qRes (S I : EReal → EReal) (h : Arr 4096 4096) (γ : Arr 1 4096) (w : Arr 2112 4096) (s : Arr 17 32) (gq : Arr 1 1536) :
    Arr 4096 1536 := fun i =>
  nrm 1153433600#32 (fun j : Fin 1536 => yr S I (row h (i 0)) (row γ 0) (wd (row w) (row s)) (qcol j)) (row gq 0) (i 1)

/-- The key-value part. -/
def kvRes (S I : EReal → EReal) (h : Arr 4096 4096) (γ : Arr 1 4096) (w : Arr 2112 4096) (s : Arr 17 32) (gkv : Arr 1 512) :
    Arr 4096 512 := fun i =>
  nrm 1140850688#32 (fun j : Fin 512 => yr S I (row h (i 0)) (row γ 0) (wd (row w) (row s)) (kvcol j)) (row gkv 0) (i 1)

/-- The rotary part. -/
def peRes (S I : EReal → EReal) (h : Arr 4096 4096) (γ : Arr 1 4096) (w : Arr 2112 4096) (s : Arr 17 32) : Arr 4096 64 :=
  fun i => yr S I (row h (i 0)) (row γ 0) (wd (row w) (row s)) (pecol (i 1))

/-- The codes. -/
def codesRes (I : EReal → EReal) (h : Arr 4096 4096) (γ : Arr 1 4096) : Arr 4096 4096 := fun i =>
  codes I (row h (i 0)) (row γ 0) (i 1)

/-- The scales. -/
def scalesRes (S : EReal → EReal) (h : Arr 4096 4096) (γ : Arr 1 4096) : Arr 4096 32 := fun i =>
  S (tg (row h (i 0)) (row γ 0) (i 1))

/-! ## The kernel's pair and the reference's give the same results where `γ` is finite -/

/-- The query part is the same with the two pairs of scale and inverse. -/
theorem qRes_eq (h : Arr 4096 4096) (γ : Arr 1 4096) (w : Arr 2112 4096) (s : Arr 17 32) (gq : Arr 1 1536)
    (hγ : Fin128 (row γ 0)) : qRes kScale kInv h γ w s gq = qRes rScale rInv h γ w s gq := by
  funext i
  simp only [qRes, yr_eq hγ]

/-- The key-value part is the same with the two pairs of scale and inverse. -/
theorem kvRes_eq (h : Arr 4096 4096) (γ : Arr 1 4096) (w : Arr 2112 4096) (s : Arr 17 32) (gkv : Arr 1 512)
    (hγ : Fin128 (row γ 0)) : kvRes kScale kInv h γ w s gkv = kvRes rScale rInv h γ w s gkv := by
  funext i
  simp only [kvRes, yr_eq hγ]

/-- The rotary part is the same with the two pairs of scale and inverse. -/
theorem peRes_eq (h : Arr 4096 4096) (γ : Arr 1 4096) (w : Arr 2112 4096) (s : Arr 17 32)
    (hγ : Fin128 (row γ 0)) : peRes kScale kInv h γ w s = peRes rScale rInv h γ w s := by
  funext i
  simp only [peRes, yr_eq hγ]

/-- The codes are the same with the two inverses. -/
theorem codesRes_eq (h : Arr 4096 4096) (γ : Arr 1 4096) (hγ : Fin128 (row γ 0)) :
    codesRes kInv h γ = codesRes rInv h γ := by
  funext i
  exact codes_eq hγ _ _

/-- The scales are the same with the two scales. -/
theorem scalesRes_eq (h : Arr 4096 4096) (γ : Arr 1 4096) (hγ : Fin128 (row γ 0)) :
    scalesRes kScale h γ = scalesRes rScale h γ := by
  funext i
  exact scale_tg hγ _ _

end Mla

end
-- ==== Proof.Block.lean ====
module

public import proofs.«01_k».proof.Proof.Weights
public import proofs.«01_k».proof.Proof.Result
public import Idealize.ShloMosaic.Lib.Pipeline.ValueKit.Tiles

@[expose] public section

set_option maxRecDepth 16384

noncomputable section

/-! # What one grid point leaves in its blocks

The pieces of `Stage` and `Weights`, read back at an index: the rows of `Spec` over the kernel's pair of scales. -/

namespace Mla

open Idealize.ShloMosaic Cert.KernelIdeal Cert.KernelIdeal.Gen

/-- The groups of a block. -/
def hB (x : Vec Ideal S256x4096 .bf16) (g : Fin 32) : Vec Ideal S256x128 .bf16 := View.ld x (rectH g)

/-- The groups of the weights `γ`. -/
def gB (x : Vec Ideal S1x4096 .bf16) (g : Fin 32) : Vec Ideal S1x128 .bf16 := View.ld x (rectG g)

/-- A column is the column of its group at its place in the group. -/
theorem col_grp (k : Fin 4096) : col (grp k) ⟨k.val % 128, by omega⟩ = k := by
  apply Fin.ext
  show k.val / 128 * 128 + k.val % 128 = k.val
  omega

/-- The group of a group's column is that group. -/
theorem grp_col (g : Fin 32) (k : Fin 128) : grp (col g k) = g := by
  apply Fin.ext
  show (g.val * 128 + k.val) / 128 = g.val
  have := k.isLt
  omega

/-- The entry of a group of token columns. -/
theorem hB_apply (x : Vec Ideal S256x4096 .bf16) (g : Fin 32) (s : Fin 256) (k : Fin 128) :
    hB x g (ix2 s k) = row x s (col g k) := by
  refine View.ld_unit_apply_of x _ _ _ _ _ fun a => ?_
  fin_cases a
  · show s.val = 0 + s.val; omega
  · rfl

/-- The entry of a group of the first norm's weights. -/
theorem gB_apply (x : Vec Ideal S1x4096 .bf16) (g : Fin 32) (k : Fin 128) :
    gB x g (ix2 0 k) = row x 0 (col g k) := by
  refine View.ld_unit_apply_of x _ _ _ _ _ fun a => ?_
  fin_cases a
  · rfl
  · rfl

/-- The group's normed tokens are the normed rows at the group's columns. -/
theorem xG_apply (h : Vec Ideal S256x4096 .bf16) (γ : Vec Ideal S1x4096 .bf16) (g : Fin 32) (s : Fin 256) (k : Fin 128) :
    xG (hB h) (gB γ) g (ix2 s k) = xn (row h s) (row γ 0) (col g k) := by
  unfold xG
  rw [xV_apply, rV_apply (hB h) (row h s) s fun g k => hB_apply h g s k, hB_apply, gB_apply]
  rfl

/-- The group's quotient is the row's quotient for that group. -/
theorem tG_apply (h : Vec Ideal S256x4096 .bf16) (γ : Vec Ideal S1x4096 .bf16) (g : Fin 32) (s : Fin 256) :
    tV (xG (hB h) (gB γ) g) (ix2 s 0) = tg (row h s) (row γ 0) g := by
  rw [tV_apply]
  simp only [xG_apply]
  rfl

/-- Where the entries of a group of token columns lie in the block. -/
theorem rectH_emb (g : Fin 32) (s : Fin 256) (k : Fin 128) : (rectH g).emb (ix2 s k) = ix2 s (col g k) := by
  funext a
  apply Fin.ext
  fin_cases a
  · show 0 + 1 * s.val = s.val; omega
  · show g.val * 128 + 1 * k.val = g.val * 128 + k.val; omega

/-- The groups cover a block. -/
theorem mem_rectH (s : Fin 256) (k : Fin 4096) : ix2 s k ∈ (rectH (grp k)).set := by
  refine Rect.mem_set_unit.2 fun a => ?_
  fin_cases a
  · exact ⟨Nat.zero_le _, by show s.val < 0 + 256; omega⟩
  · exact ⟨by show k.val / 128 * 128 ≤ k.val; omega, by show k.val < k.val / 128 * 128 + 128; omega⟩

/-- A block stored group by group holds what the groups hold. -/
theorem canon_groups {e : EltTy} (f : (g : Fin 32) → (S256x128.Idx → Elt Ideal e)) (G : S256x4096.Idx → Elt Ideal e)
    (hf : ∀ g s k, f g (ix2 s k) = G (ix2 s (col g k))) :
    View.canon (List.ofFn fun i : Fin 32 => (⟨rectH i.rev, f i.rev⟩ : View.Piece (Elt Ideal) S256x4096 e)) = G := by
  funext y
  refine View.canon_apply_of_pieces G _ ?_ y ?_
  · intro p hp
    obtain ⟨i, rfl⟩ := List.mem_ofFn.1 hp
    intro (x : S256x128.Idx)
    idx_vars x
    exact (hf i.rev x0 x1).trans (congrArg G (rectH_emb i.rev x0 x1).symm)
  · idx_vars y
    exact ⟨_, List.mem_ofFn.2 ⟨(grp y1).rev, rfl⟩, by rw [Fin.rev_rev]; exact mem_rectH y0 y1⟩

/-- The codes of a block. -/
theorem codesL_canon (h : Vec Ideal S256x4096 .bf16) (γ : Vec Ideal S1x4096 .bf16) :
    View.canon (codesL (hB h) (gB γ)) = fun y => codes kInv (row h (y 0)) (row γ 0) (y 1) := by
  unfold codesL
  refine canon_groups (e := .fp8e4m3) (fun g => codesV (xG (hB h) (gB γ) g)) (fun y => codes kInv (row h (y 0)) (row γ 0) (y 1)) ?_
  · intro g s k
    rw [codesV_apply, tG_apply, xG_apply]
    show _ = code (kInv (tg (row h s) (row γ 0) (grp (col g k)))) _
    rw [grp_col]
    rfl

/-- The dequantised codes of a block. -/
theorem xdL_canon (h : Vec Ideal S256x4096 .bf16) (γ : Vec Ideal S1x4096 .bf16) :
    View.canon (xdL (hB h) (gB γ)) = fun y => xd kScale kInv (row h (y 0)) (row γ 0) (y 1) := by
  unfold xdL
  refine canon_groups (e := .bf16) (fun g => xdV (xG (hB h) (gB γ) g)) (fun y => xd kScale kInv (row h (y 0)) (row γ 0) (y 1)) ?_
  · intro g s k
    rw [xdV_apply, tG_apply, xG_apply]
    show _ = code (kInv (tg (row h s) (row γ 0) (grp (col g k)))) _ * kScale (tg (row h s) (row γ 0) (grp (col g k)))
    rw [grp_col]
    rfl

/-- The scales of a block. -/
theorem scalesV_eq (h : Vec Ideal S256x4096 .bf16) (γ : Vec Ideal S1x4096 .bf16) :
    scalesV (hB h) (gB γ) = fun y => kScale (tg (row h (y 0)) (row γ 0) (y 1)) := by
  funext y
  idx_vars y
  rw [scalesV_apply, scaleV_apply, tG_apply]

/-! ## The weights -/

/-- A block of the weights. -/
def wB (w : Vec Ideal S2112x4096 .fp8e4m3) (n : Fin 16) (g : Fin 32) : Vec Ideal S128x128 .fp8e4m3 := View.ld w (rectW n g)

/-- A block of the last row block of the weights. -/
def wB' (w : Vec Ideal S2112x4096 .fp8e4m3) (g : Fin 32) : Vec Ideal S64x128 .fp8e4m3 := View.ld w (rectW' g)

/-- A scale of the weights. -/
def sB (s : Vec Ideal S17x32 .f32) (n : Fin 17) (g : Fin 32) : Ideal .f32 :=
  View.ld s (rectS n g) (Shape.Idx.first (s := S1x1) (by decide))

/-- The scale of a block of projection codes. -/
theorem sB_apply (s : Vec Ideal S17x32 .f32) (n : Fin 17) (g : Fin 32) : sB s n g = row s n g := by
  refine View.ld_unit_apply_of s _ _ _ _ _ fun a => ?_
  fin_cases a <;> rfl

/-- A full block of codes dequantised: each code times the scale. -/
theorem wV_apply (w : Vec Ideal S128x128 .fp8e4m3) (s : Ideal .f32) (i : Fin 128) (k : Fin 128) :
    wV w s (ix2 i k) = w (ix2 i k) * s := by
  pointwise [wV]

/-- The short last block of codes dequantised: each code times the scale. -/
theorem wV'_apply (w : Vec Ideal S64x128 .fp8e4m3) (s : Ideal .f32) (i : Fin 64) (k : Fin 128) :
    wV' w s (ix2 i k) = w (ix2 i k) * s := by
  pointwise [wV']

/-- Row `i` of row block `n`. -/
def wn (n : Fin 16) (i : Fin 128) : Fin 2112 := ⟨n.val * 128 + i.val, by have := n.isLt; have := i.isLt; omega⟩

/-- Row `i` of the last row block. -/
def wn' (i : Fin 64) : Fin 2112 := ⟨2048 + i.val, by have := i.isLt; omega⟩

/-- The entry of a full block of projection codes. -/
theorem wB_apply (w : Vec Ideal S2112x4096 .fp8e4m3) (n : Fin 16) (g : Fin 32) (i k : Fin 128) :
    wB w n g (ix2 i k) = row w (wn n i) (col g k) := by
  refine View.ld_unit_apply_of w _ _ _ _ _ fun a => ?_
  fin_cases a <;> rfl

/-- The entry of a short last block of projection codes. -/
theorem wB'_apply (w : Vec Ideal S2112x4096 .fp8e4m3) (g : Fin 32) (i : Fin 64) (k : Fin 128) :
    wB' w g (ix2 i k) = row w (wn' i) (col g k) := by
  refine View.ld_unit_apply_of w _ _ _ _ _ fun a => ?_
  fin_cases a <;> rfl

/-- Where the entries of a full block lie in the array of projection codes. -/
theorem rectW_emb (n : Fin 16) (g : Fin 32) (i k : Fin 128) : (rectW n g).emb (ix2 i k) = ix2 (wn n i) (col g k) := by
  funext a
  apply Fin.ext
  fin_cases a
  · show n.val * 128 + 1 * i.val = n.val * 128 + i.val; omega
  · show g.val * 128 + 1 * k.val = g.val * 128 + k.val; omega

/-- Where the entries of a short last block lie in the array of projection codes. -/
theorem rectW'_emb (g : Fin 32) (i : Fin 64) (k : Fin 128) : (rectW' g).emb (ix2 i k) = ix2 (wn' i) (col g k) := by
  funext a
  apply Fin.ext
  fin_cases a
  · show 2048 + 1 * i.val = 2048 + i.val; omega
  · show g.val * 128 + 1 * k.val = g.val * 128 + k.val; omega

/-- An entry lies in the full block of its row and column. -/
theorem mem_rectW (n : Fin 2112) (k : Fin 4096) (r : Fin 16) (hr : r.val = n.val / 128) : ix2 n k ∈ (rectW r (grp k)).set := by
  refine Rect.mem_set_unit.2 fun a => ?_
  fin_cases a
  · exact ⟨by show r.val * 128 ≤ n.val; omega, by show n.val < r.val * 128 + 128; omega⟩
  · exact ⟨by show k.val / 128 * 128 ≤ k.val; omega, by show k.val < k.val / 128 * 128 + 128; omega⟩

/-- An entry of the last 64 rows lies in the short block of its column. -/
theorem mem_rectW' (n : Fin 2112) (k : Fin 4096) (hn : 2048 ≤ n.val) : ix2 n k ∈ (rectW' (grp k)).set := by
  refine Rect.mem_set_unit.2 fun a => ?_
  fin_cases a
  · exact ⟨by show 2048 ≤ n.val; omega, by show n.val < 2048 + 64; omega⟩
  · exact ⟨by show k.val / 128 * 128 ≤ k.val; omega, by show k.val < k.val / 128 * 128 + 128; omega⟩

/-- Every full block is one of the 512 that are written. -/
theorem exists_wrow (r : Fin 16) (g : Fin 32) : ∃ i : Fin 512, wrow i.rev = r ∧ wcol i.rev = g := by
  refine ⟨Fin.rev ⟨r.val * 32 + g.val, by omega⟩, ?_, ?_⟩ <;> rw [Fin.rev_rev] <;> apply Fin.ext
  · show (r.val * 32 + g.val) / 32 = r.val; omega
  · show (r.val * 32 + g.val) % 32 = g.val; omega

/-- The weights stored block by block are the dequantised weights. -/
theorem wdL_canon (w : Vec Ideal S2112x4096 .fp8e4m3) (s : Vec Ideal S17x32 .f32) :
    View.canon (wdL (wB w) (wB' w) (sB s)) = fun y => wd (row w) (row s) (y 0) (y 1) := by
  funext y
  refine View.canon_apply_of_pieces (Val := Elt Ideal) (e := .bf16)
    (fun y : S2112x4096.Idx => wd (row w) (row s) (y 0) (y 1)) _ ?_ y ?_
  · intro p hp
    rcases List.mem_append.1 hp with hp | hp <;> obtain ⟨i, rfl⟩ := List.mem_ofFn.1 hp
    · intro (x : S64x128.Idx)
      idx_vars x
      have e := rectW'_emb i.rev x0 x1
      show wV' _ _ (ix2 x0 x1) = wd (row w) (row s) ((rectW' i.rev).emb (ix2 x0 x1) 0) ((rectW' i.rev).emb (ix2 x0 x1) 1)
      rw [e, wV'_apply, wB'_apply, sB_apply]
      show _ = row w (wn' x0) (col i.rev x1) * row s (rowBlk (wn' x0)) (grp (col i.rev x1))
      rw [grp_col]
      congr 2
      apply Fin.ext
      show 16 = (2048 + x0.val) / 128
      omega
    · intro (x : S128x128.Idx)
      idx_vars x
      have e := rectW_emb (wrow i.rev) (wcol i.rev) x0 x1
      show wV _ _ (ix2 x0 x1) = wd (row w) (row s) ((rectW (wrow i.rev) (wcol i.rev)).emb (ix2 x0 x1) 0)
        ((rectW (wrow i.rev) (wcol i.rev)).emb (ix2 x0 x1) 1)
      rw [e, wV_apply, wB_apply, sB_apply]
      show _ = row w (wn (wrow i.rev) x0) (col (wcol i.rev) x1) * row s (rowBlk (wn (wrow i.rev) x0)) (grp (col (wcol i.rev) x1))
      rw [grp_col]
      congr 2
      apply Fin.ext
      show (wrow i.rev).val = ((wrow i.rev).val * 128 + x0.val) / 128
      omega
  · idx_vars y
    by_cases hn : 2048 ≤ y0.val
    · exact ⟨_, List.mem_append.2 (.inl (List.mem_ofFn.2 ⟨(grp y1).rev, rfl⟩)), by
        show _ ∈ (rectW' (grp y1).rev.rev).set
        rw [Fin.rev_rev]; exact mem_rectW' y0 y1 hn⟩
    · obtain ⟨i, h1, h2⟩ := exists_wrow ⟨y0.val / 128, by omega⟩ (grp y1)
      exact ⟨_, List.mem_append.2 (.inr (List.mem_ofFn.2 ⟨i, rfl⟩)), by
        show _ ∈ (rectW (wrow i.rev) (wcol i.rev)).set
        rw [h1, h2]; exact mem_rectW y0 y1 _ rfl⟩

end Mla

end
-- ==== Proof.Points.lean ====
module

public import proofs.«01_k».proof.Proof.Block

@[expose] public section

set_option maxRecDepth 100000

noncomputable section

/-! # What the kernel's grid points leave

At the first point the weights are dequantised into the scratch that is carried; every point quantises its block of
tokens, multiplies it by the scratch and norms the two latent parts. -/

namespace Mla

open Idealize.ShloMosaic Cert.KernelIdeal Cert.KernelIdeal.Gen

/-! ## The outputs of a block, from the dequantised weights `w` -/

/-- The query part. -/
def qBlk (h : Vec Ideal S256x4096 .bf16) (γ : Vec Ideal S1x4096 .bf16) (w : Vec Ideal S2112x4096 .bf16)
    (gq : Vec Ideal S1x1536 .bf16) : Vec Ideal S256x1536 .bf16 := fun y =>
  nrm 1153433600#32 (fun j : Fin 1536 => yr kScale kInv (row h (y 0)) (row γ 0) (row w) (qcol j)) (row gq 0) (y 1)

/-- The key-value part. -/
def kvBlk (h : Vec Ideal S256x4096 .bf16) (γ : Vec Ideal S1x4096 .bf16) (w : Vec Ideal S2112x4096 .bf16)
    (gkv : Vec Ideal S1x512 .bf16) : Vec Ideal S256x512 .bf16 := fun y =>
  nrm 1140850688#32 (fun j : Fin 512 => yr kScale kInv (row h (y 0)) (row γ 0) (row w) (kvcol j)) (row gkv 0) (y 1)

/-- The rotary part. -/
def peBlk (h : Vec Ideal S256x4096 .bf16) (γ : Vec Ideal S1x4096 .bf16) (w : Vec Ideal S2112x4096 .bf16) :
    Vec Ideal S256x64 .bf16 := fun y => yr kScale kInv (row h (y 0)) (row γ 0) (row w) (pecol (y 1))

/-- The codes. -/
def codesBlk (h : Vec Ideal S256x4096 .bf16) (γ : Vec Ideal S1x4096 .bf16) : Vec Ideal S256x4096 .fp8e4m3 := fun y =>
  codes kInv (row h (y 0)) (row γ 0) (y 1)

/-- The dequantised codes. -/
def xdBlk (h : Vec Ideal S256x4096 .bf16) (γ : Vec Ideal S1x4096 .bf16) : Vec Ideal S256x4096 .bf16 := fun y =>
  xd kScale kInv (row h (y 0)) (row γ 0) (y 1)

/-- The scales. -/
def scalesBlk (h : Vec Ideal S256x4096 .bf16) (γ : Vec Ideal S1x4096 .bf16) : Vec Ideal S256x32 .f32 := fun y =>
  kScale (tg (row h (y 0)) (row γ 0) (y 1))

/-- The dequantised weights. -/
def wdArr (w : Vec Ideal S2112x4096 .fp8e4m3) (s : Vec Ideal S17x32 .f32) : Vec Ideal S2112x4096 .bf16 := fun y =>
  wd (row w) (row s) (y 0) (y 1)

/-! ## The payloads at an index -/

/-- The product: an entry is the sum over all 4096 columns. -/
theorem pay930_apply (x : Vec Ideal S256x4096 .bf16) (w : Vec Ideal S2112x4096 .bf16) (s : Fin 256) (n : Fin 2112) :
    k0_pay930 x w (ix2 s n) = ∑ k : Fin 4096, x (ix2 s k) * w (ix2 n k) := by
  pointwise [k0_pay930]

/-- The stored query part is the common one. -/
theorem q_eq (h : Vec Ideal S256x4096 .bf16) (γ : Vec Ideal S1x4096 .bf16) (w : Vec Ideal S2112x4096 .bf16)
    (gq : Vec Ideal S1x1536 .bf16) : k0_pay1 (k0_pay931 (xdBlk h γ) w) gq = qBlk h γ w gq := by
  funext y
  idx_vars y
  unfold k0_pay931
  have e := fun n => pay930_apply (xdBlk h γ) w y0 n
  generalize k0_pay930 (xdBlk h γ) w = v at e
  pointwise [k0_pay1]
  simp only [e]
  rfl

/-- The stored key-value part is the common one. -/
theorem kv_eq (h : Vec Ideal S256x4096 .bf16) (γ : Vec Ideal S1x4096 .bf16) (w : Vec Ideal S2112x4096 .bf16)
    (gkv : Vec Ideal S1x512 .bf16) : k0_pay2 (k0_pay930 (xdBlk h γ) w) gkv = kvBlk h γ w gkv := by
  funext y
  idx_vars y
  have e := fun n => pay930_apply (xdBlk h γ) w y0 n
  generalize k0_pay930 (xdBlk h γ) w = v at e
  pointwise [k0_pay2]
  simp only [e]
  rfl

/-- The stored rotary part is the common one. -/
theorem pe_eq (h : Vec Ideal S256x4096 .bf16) (γ : Vec Ideal S1x4096 .bf16) (w : Vec Ideal S2112x4096 .bf16) :
    k0_pay3 (k0_pay930 (xdBlk h γ) w) = peBlk h γ w := by
  funext y
  idx_vars y
  have e := fun n => pay930_apply (xdBlk h γ) w y0 n
  generalize k0_pay930 (xdBlk h γ) w = v at e
  pointwise [k0_pay3]
  simp only [e]
  rfl

/-! ## Reading and storing whole buffers -/

/-- The loads of the 32 groups of token columns give the groups. -/
theorem read_groups (M : Memref sig .tc .vmem S256x4096 .bf16) (hM : M.IsWhole) (x : Vec Ideal S256x4096 .bf16) :
    (fun g => View.readAt (Elt Ideal) M.view (rectH g).toLoadRect (hM.unread x)) = hB x := by
  funext g
  rw [View.readAt_eq_ld, hM.read_unread]
  rfl

/-- The loads of the 32 groups of the first norm's weights give the groups. -/
theorem read_gamma (M : Memref sig .tc .vmem S1x4096 .bf16) (hM : M.IsWhole) (x : Vec Ideal S1x4096 .bf16) :
    (fun g => View.readAt (Elt Ideal) M.view (rectG g).toLoadRect (hM.unread x)) = gB x := by
  funext g
  rw [View.readAt_eq_ld, hM.read_unread]
  rfl

/-- The loads of the full blocks of projection codes give the blocks. -/
theorem read_w (M : Memref sig .tc .vmem S2112x4096 .fp8e4m3) (hM : M.IsWhole) (x : Vec Ideal S2112x4096 .fp8e4m3) :
    (fun n g => View.readAt (Elt Ideal) M.view (rectW n g).toLoadRect (hM.unread x)) = wB x := by
  funext n g
  rw [View.readAt_eq_ld, hM.read_unread]
  rfl

/-- The loads of the short last blocks of projection codes give the blocks. -/
theorem read_w' (M : Memref sig .tc .vmem S2112x4096 .fp8e4m3) (hM : M.IsWhole) (x : Vec Ideal S2112x4096 .fp8e4m3) :
    (fun g => View.readAt (Elt Ideal) M.view (rectW' g).toLoadRect (hM.unread x)) = wB' x := by
  funext g
  rw [View.readAt_eq_ld, hM.read_unread]
  rfl

/-- The loads of single scales give the scales. -/
theorem read_s (M : Memref sig .tc .smem S17x32 .f32) (hM : M.IsWhole) (x : Vec Ideal S17x32 .f32) :
    (fun n g => View.readAt (Elt Ideal) M.view (rectS n g).toLoadRect (hM.unread x)
      (Shape.Idx.first (s := S1x1) (by decide))) = sB x := by
  funext n g
  rw [View.readAt_eq_ld, hM.read_unread]
  rfl

/-- A load of a whole buffer. -/
theorem read_whole {sp : Space} {e : EltTy} {s : Shape} (M : Memref sig .tc sp s e) (hM : M.IsWhole) (x : s.Idx → Elt Ideal e)
    (off : Fin s.rank → ℕ) (h : off = fun _ => 0) (inb : ∀ a, off a + s.size a ≤ s.size a) :
    View.readAt (Elt Ideal) M.view (Rect.unit off s.size inb).toLoadRect (hM.unread x) = x := by
  rw [View.readAt_eq_ld, hM.read_unread, View.ld_unit_zero h]

/-- A load of a whole buffer that pieces cover. -/
theorem readCov_whole {sp : Space} {e : EltTy} {s : Shape} (v : View sig .tc sp s e) (L : List (View.Piece (Elt Ideal) s e))
    (off : Fin s.rank → ℕ) (h : off = fun _ => 0) (inb : ∀ a, off a + s.size a ≤ s.size a) :
    v.readCov L (Rect.unit off s.size inb).toLoadRect = View.canon L := by
  rw [View.readCov_eq_canon']
  exact View.ld_unit_zero h inb (View.canon L)

/-- The offset written as two zeros is the zero offset. -/
theorem off_zero : (![0, 0] : Fin 2 → ℕ) = fun _ => 0 := by funext a; fin_cases a <;> rfl

variable (m : (ℓ : Loc nD τ sig) → Buf (Elt Ideal) ℓ)

/-! ## The blocks of a point -/

/-- The projection scales at a grid point. -/
abbrev sI (c : Dev nD) (t : Fin cfg0.N) : Vec Ideal S17x32 .f32 := iblk m c 0 t
/-- The 256 tokens of a grid point. -/
abbrev hI (c : Dev nD) (t : Fin cfg0.N) : Vec Ideal S256x4096 .bf16 := iblk m c 1 t
/-- The first norm's weights at a grid point. -/
abbrev gI (c : Dev nD) (t : Fin cfg0.N) : Vec Ideal S1x4096 .bf16 := iblk m c 2 t
/-- The projection codes at a grid point. -/
abbrev wI (c : Dev nD) (t : Fin cfg0.N) : Vec Ideal S2112x4096 .fp8e4m3 := iblk m c 3 t
/-- The query norm's weights at a grid point. -/
abbrev gqI (c : Dev nD) (t : Fin cfg0.N) : Vec Ideal S1x1536 .bf16 := iblk m c 4 t
/-- The key-value norm's weights at a grid point. -/
abbrev gkvI (c : Dev nD) (t : Fin cfg0.N) : Vec Ideal S1x512 .bf16 := iblk m c 5 t

/-- The groups of tokens as the point loads them. -/
abbrev hL (c : Dev nD) (t : Fin cfg0.N) (g : Fin 32) : Vec Ideal S256x128 .bf16 :=
  View.readAt (Elt Ideal) (ms0_1 t).view (rectH g).toLoadRect ((hs0_1 t).unread (hI m c t))

/-- The groups of `γ` as the point loads them. -/
abbrev gL (c : Dev nD) (t : Fin cfg0.N) (g : Fin 32) : Vec Ideal S1x128 .bf16 :=
  View.readAt (Elt Ideal) (ms0_2 t).view (rectG g).toLoadRect ((hs0_2 t).unread (gI m c t))

/-- The token groups a grid point loads are the groups of its tokens. -/
theorem hL_eq (c : Dev nD) (t : Fin cfg0.N) : hL m c t = hB (hI m c t) := read_groups _ _ _
/-- The weight groups a grid point loads are the groups of the first norm's weights. -/
theorem gL_eq (c : Dev nD) (t : Fin cfg0.N) : gL m c t = gB (gI m c t) := read_gamma _ _ _

/-- The pieces of dequantised weights that a point would store. -/
abbrev wL (c : Dev nD) (t : Fin cfg0.N) : List (View.Piece (Elt Ideal) S2112x4096 .bf16) :=
  wdL (fun n g => View.readAt (Elt Ideal) (ms0_3 t).view (rectW n g).toLoadRect ((hs0_3 t).unread (wI m c t)))
    (fun g => View.readAt (Elt Ideal) (ms0_3 t).view (rectW' g).toLoadRect ((hs0_3 t).unread (wI m c t)))
    (fun n g => View.readAt (Elt Ideal) (ms0_0 t).view (rectS n g).toLoadRect ((hs0_0 t).unread (sI m c t))
      (Shape.Idx.first (s := S1x1) (by decide)))

/-- The dequantised projection that the stores of the first grid point leave. -/
theorem wL_canon (c : Dev nD) (t : Fin cfg0.N) : View.canon (wL m c t) = wdArr (wI m c t) (sI m c t) := by
  unfold wL
  rw [read_w, read_w', read_s]
  exact wdL_canon _ _

/-- The dequantised codes as the point loads them back. -/
abbrev xdC (c : Dev nD) (t : Fin cfg0.N) : Vec Ideal S256x4096 .bf16 :=
  scM0_1.view.readCov (xdL (hL m c t) (gL m c t))
    (Rect.unit (s := S256x4096) ![0, 0] S256x4096.size inb_S256x4096_S256x4096_0_0).toLoadRect

/-- The dequantised tokens that a grid point leaves in its scratch array. -/
theorem xdC_eq (c : Dev nD) (t : Fin cfg0.N) : xdC m c t = xdBlk (hI m c t) (gI m c t) := by
  unfold xdC
  rw [readCov_whole _ _ _ off_zero, hL_eq, gL_eq]
  exact xdL_canon _ _

/-- The weights as the first point loads them back. -/
abbrev wdC (c : Dev nD) (t : Fin cfg0.N) : Vec Ideal S2112x4096 .bf16 :=
  scM0_0.view.readCov (wL m c t)
    (Rect.unit (s := S2112x4096) ![0, 0] S2112x4096.size inb_S2112x4096_S2112x4096_0_0).toLoadRect

/-- The dequantised projection that the first grid point leaves in its scratch array. -/
theorem wdC_eq (c : Dev nD) (t : Fin cfg0.N) : wdC m c t = wdArr (wI m c t) (sI m c t) := by
  unfold wdC
  rw [readCov_whole _ _ _ off_zero]
  exact wL_canon m c t

/-- The weights as a later point loads them. -/
abbrev wdU (w : Vec Ideal S2112x4096 .bf16) : Vec Ideal S2112x4096 .bf16 :=
  View.readAt (Elt Ideal) scM0_0.view
    (Rect.unit (s := S2112x4096) ![0, 0] S2112x4096.size inb_S2112x4096_S2112x4096_0_0).toLoadRect
    ((Memref.isWhole_whole _ : scM0_0.IsWhole).unread w)

/-- Loading the whole scratch array gives the array. -/
theorem wdU_eq (w : Vec Ideal S2112x4096 .bf16) : wdU w = w := read_whole scM0_0 _ w _ off_zero _

/-- What a point's query store writes. -/
abbrev qL (c : Dev nD) (t : Fin cfg0.N) (w : Vec Ideal S2112x4096 .bf16) : List (View.Piece (Elt Ideal) S256x1536 .bf16) :=
  [⟨Rect.unit (s := S256x1536) ![0, 0] S256x1536.size inb_S256x1536_S256x1536_0_0,
    k0_pay1 (k0_pay931 (xdC m c t) w) (View.readAt (Elt Ideal) (ms0_4 t).view
      (Rect.unit (s := S1x1536) ![0, 0] S1x1536.size inb_S1x1536_S1x1536_0_0).toLoadRect ((hs0_4 t).unread (gqI m c t)))⟩]

/-- The query part that a grid point stores. -/
theorem qL_canon (c : Dev nD) (t : Fin cfg0.N) (w : Vec Ideal S2112x4096 .bf16) :
    View.canon (qL m c t w) = qBlk (hI m c t) (gI m c t) w (gqI m c t) := by
  unfold qL
  rw [View.canon_unit_zero off_zero, xdC_eq, read_whole _ _ _ _ off_zero]
  exact q_eq _ _ _ _

/-- What a point's key-value store writes. -/
abbrev kvL (c : Dev nD) (t : Fin cfg0.N) (w : Vec Ideal S2112x4096 .bf16) : List (View.Piece (Elt Ideal) S256x512 .bf16) :=
  [⟨Rect.unit (s := S256x512) ![0, 0] S256x512.size inb_S256x512_S256x512_0_0,
    k0_pay2 (k0_pay930 (xdC m c t) w) (View.readAt (Elt Ideal) (ms0_5 t).view
      (Rect.unit (s := S1x512) ![0, 0] S1x512.size inb_S1x512_S1x512_0_0).toLoadRect ((hs0_5 t).unread (gkvI m c t)))⟩]

/-- The key-value part that a grid point stores. -/
theorem kvL_canon (c : Dev nD) (t : Fin cfg0.N) (w : Vec Ideal S2112x4096 .bf16) :
    View.canon (kvL m c t w) = kvBlk (hI m c t) (gI m c t) w (gkvI m c t) := by
  unfold kvL
  rw [View.canon_unit_zero off_zero, xdC_eq, read_whole _ _ _ _ off_zero]
  exact kv_eq _ _ _ _

/-- What a point's rotary store writes. -/
abbrev peL (c : Dev nD) (t : Fin cfg0.N) (w : Vec Ideal S2112x4096 .bf16) : List (View.Piece (Elt Ideal) S256x64 .bf16) :=
  [⟨Rect.unit (s := S256x64) ![0, 0] S256x64.size inb_S256x64_S256x64_0_0, k0_pay3 (k0_pay930 (xdC m c t) w)⟩]

/-- The rotary part that a grid point stores. -/
theorem peL_canon (c : Dev nD) (t : Fin cfg0.N) (w : Vec Ideal S2112x4096 .bf16) :
    View.canon (peL m c t w) = peBlk (hI m c t) (gI m c t) w := by
  unfold peL
  rw [View.canon_unit_zero off_zero, xdC_eq]
  exact pe_eq _ _ _

/-- The codes that the 32 stores of a grid point leave. -/
theorem codesL_canon' (c : Dev nD) (t : Fin cfg0.N) :
    View.canon (codesL (hL m c t) (gL m c t)) = codesBlk (hI m c t) (gI m c t) := by
  rw [hL_eq, gL_eq]
  exact codesL_canon _ _

/-- What a point's store of scales writes. -/
abbrev scalesL (c : Dev nD) (t : Fin cfg0.N) : List (View.Piece (Elt Ideal) S256x32 .f32) :=
  [⟨Rect.unit (s := S256x32) ![0, 0] S256x32.size inb_S256x32_S256x32_0_0, scalesV (hL m c t) (gL m c t)⟩]

/-- The scales that a grid point stores. -/
theorem scalesL_canon (c : Dev nD) (t : Fin cfg0.N) :
    View.canon (scalesL m c t) = scalesBlk (hI m c t) (gI m c t) := by
  unfold scalesL
  rw [View.canon_unit_zero off_zero, hL_eq, gL_eq]
  exact scalesV_eq _ _

end Mla

end
-- ==== Proof.Runs.lean ====
module

public import proofs.«01_k».proof.Proof.Points

@[expose] public section

set_option maxRecDepth 100000

noncomputable section

/-! # The kernel's run, point by point

The first point's case and the other points' case leave the outputs of `Points`; the scratch holds the dequantised weights
after every point. -/

namespace Mla

open Idealize.ShloMosaic Cert.KernelIdeal Cert.KernelIdeal.Gen

variable (m : (ℓ : Loc nD τ sig) → Buf (Elt Ideal) ℓ)

/-- The query part after the first point. -/
theorem q_A (c : Dev nD) (t : Fin cfg0.N) (h0 : t.val % 16 = 0) :
    (outsAt0 m c t.val t.isLt).1 = qBlk (hI m c t) (gI m c t) (wdArr (wI m c t) (sI m c t)) (gqI m c t) := by
  rw [outsAt0_A m c t h0]
  dsimp only
  unfold out0_A_6
  rw [View.read_writes_junk_eq_canon]
  refine (congrArg View.canon (?_ : _ = qL m c t (wdC m c t))).trans ((qL_canon m c t (wdC m c t)).trans (by rw [wdC_eq]))
  sl_kernel_rfl

/-- The query part after a later point. -/
theorem q_B (c : Dev nD) (t : Fin cfg0.N) (h0 : ¬t.val % 16 = 0) :
    (outsAt0 m c t.val t.isLt).1 = qBlk (hI m c t) (gI m c t) (outsAt0 m c (t.val - 1) (Nat.lt_of_le_of_lt (Nat.sub_le _ _) t.isLt)).2.2.2.2.2 (gqI m c t) := by
  rw [outsAt0_B m c t h0]
  dsimp only
  unfold out0_B_6
  rw [View.read_writes_junk_eq_canon]
  refine (congrArg View.canon (?_ : _ = qL m c t (wdU (outsAt0 m c (t.val - 1) (Nat.lt_of_le_of_lt (Nat.sub_le _ _) t.isLt)).2.2.2.2.2))).trans ((qL_canon m c t (wdU (outsAt0 m c (t.val - 1) (Nat.lt_of_le_of_lt (Nat.sub_le _ _) t.isLt)).2.2.2.2.2)).trans (by rw [wdU_eq]))
  sl_kernel_rfl

/-- The key-value part after the first point. -/
theorem kv_A (c : Dev nD) (t : Fin cfg0.N) (h0 : t.val % 16 = 0) :
    (outsAt0 m c t.val t.isLt).2.1 = kvBlk (hI m c t) (gI m c t) (wdArr (wI m c t) (sI m c t)) (gkvI m c t) := by
  rw [outsAt0_A m c t h0]
  dsimp only
  unfold out0_A_7
  rw [View.read_writes_junk_eq_canon]
  refine (congrArg View.canon (?_ : _ = kvL m c t (wdC m c t))).trans ((kvL_canon m c t (wdC m c t)).trans (by rw [wdC_eq]))
  sl_kernel_rfl

/-- The key-value part after a later point. -/
theorem kv_B (c : Dev nD) (t : Fin cfg0.N) (h0 : ¬t.val % 16 = 0) :
    (outsAt0 m c t.val t.isLt).2.1 = kvBlk (hI m c t) (gI m c t) (outsAt0 m c (t.val - 1) (Nat.lt_of_le_of_lt (Nat.sub_le _ _) t.isLt)).2.2.2.2.2 (gkvI m c t) := by
  rw [outsAt0_B m c t h0]
  dsimp only
  unfold out0_B_7
  rw [View.read_writes_junk_eq_canon]
  refine (congrArg View.canon (?_ : _ = kvL m c t (wdU (outsAt0 m c (t.val - 1) (Nat.lt_of_le_of_lt (Nat.sub_le _ _) t.isLt)).2.2.2.2.2))).trans ((kvL_canon m c t (wdU (outsAt0 m c (t.val - 1) (Nat.lt_of_le_of_lt (Nat.sub_le _ _) t.isLt)).2.2.2.2.2)).trans (by rw [wdU_eq]))
  sl_kernel_rfl

/-- The rotary part after the first point. -/
theorem pe_A (c : Dev nD) (t : Fin cfg0.N) (h0 : t.val % 16 = 0) :
    (outsAt0 m c t.val t.isLt).2.2.1 = peBlk (hI m c t) (gI m c t) (wdArr (wI m c t) (sI m c t)) := by
  rw [outsAt0_A m c t h0]
  dsimp only
  unfold out0_A_8
  rw [View.read_writes_junk_eq_canon]
  refine (congrArg View.canon (?_ : _ = peL m c t (wdC m c t))).trans ((peL_canon m c t (wdC m c t)).trans (by rw [wdC_eq]))
  sl_kernel_rfl

/-- The rotary part after a later point. -/
theorem pe_B (c : Dev nD) (t : Fin cfg0.N) (h0 : ¬t.val % 16 = 0) :
    (outsAt0 m c t.val t.isLt).2.2.1 = peBlk (hI m c t) (gI m c t) (outsAt0 m c (t.val - 1) (Nat.lt_of_le_of_lt (Nat.sub_le _ _) t.isLt)).2.2.2.2.2 := by
  rw [outsAt0_B m c t h0]
  dsimp only
  unfold out0_B_8
  rw [View.read_writes_junk_eq_canon]
  refine (congrArg View.canon (?_ : _ = peL m c t (wdU (outsAt0 m c (t.val - 1) (Nat.lt_of_le_of_lt (Nat.sub_le _ _) t.isLt)).2.2.2.2.2))).trans ((peL_canon m c t (wdU (outsAt0 m c (t.val - 1) (Nat.lt_of_le_of_lt (Nat.sub_le _ _) t.isLt)).2.2.2.2.2)).trans (by rw [wdU_eq]))
  sl_kernel_rfl

/-- The codes after the first point. -/
theorem codes_A (c : Dev nD) (t : Fin cfg0.N) (h0 : t.val % 16 = 0) :
    (outsAt0 m c t.val t.isLt).2.2.2.1 = codesBlk (hI m c t) (gI m c t) := by
  rw [outsAt0_A m c t h0]
  dsimp only
  unfold out0_A_9
  rw [View.read_writes_junk_eq_canon]
  refine (congrArg View.canon (?_ : _ = codesL (hL m c t) (gL m c t))).trans (codesL_canon' m c t)
  sl_kernel_rfl

/-- The codes after a later point. -/
theorem codes_B (c : Dev nD) (t : Fin cfg0.N) (h0 : ¬t.val % 16 = 0) :
    (outsAt0 m c t.val t.isLt).2.2.2.1 = codesBlk (hI m c t) (gI m c t) := by
  rw [outsAt0_B m c t h0]
  dsimp only
  unfold out0_B_9
  rw [View.read_writes_junk_eq_canon]
  refine (congrArg View.canon (?_ : _ = codesL (hL m c t) (gL m c t))).trans (codesL_canon' m c t)
  sl_kernel_rfl

/-- The scales after the first point. -/
theorem scales_A (c : Dev nD) (t : Fin cfg0.N) (h0 : t.val % 16 = 0) :
    (outsAt0 m c t.val t.isLt).2.2.2.2.1 = scalesBlk (hI m c t) (gI m c t) := by
  rw [outsAt0_A m c t h0]
  dsimp only
  unfold out0_A_10
  rw [View.read_writes_junk_eq_canon]
  refine (congrArg View.canon (?_ : _ = scalesL m c t)).trans (scalesL_canon m c t)
  sl_kernel_rfl

/-- The scales after a later point. -/
theorem scales_B (c : Dev nD) (t : Fin cfg0.N) (h0 : ¬t.val % 16 = 0) :
    (outsAt0 m c t.val t.isLt).2.2.2.2.1 = scalesBlk (hI m c t) (gI m c t) := by
  rw [outsAt0_B m c t h0]
  dsimp only
  unfold out0_B_10
  rw [View.read_writes_junk_eq_canon]
  refine (congrArg View.canon (?_ : _ = scalesL m c t)).trans (scalesL_canon m c t)
  sl_kernel_rfl

/-- The scratch after the first point. -/
theorem scratch_A (c : Dev nD) (t : Fin cfg0.N) (h0 : t.val % 16 = 0) :
    (outsAt0 m c t.val t.isLt).2.2.2.2.2 = wdArr (wI m c t) (sI m c t) := by
  rw [outsAt0_A m c t h0]
  dsimp only
  unfold sout0_A_0
  rw [View.read_writes_junk_eq_canon]
  refine (congrArg View.canon (?_ : _ = wL m c t)).trans (wL_canon m c t)
  sl_kernel_rfl

/-- The scratch after a later point: what the point before left. -/
theorem scratch_B (c : Dev nD) (t : Fin cfg0.N) (h0 : ¬t.val % 16 = 0) :
    (outsAt0 m c t.val t.isLt).2.2.2.2.2
      = (outsAt0 m c (t.val - 1) (Nat.lt_of_le_of_lt (Nat.sub_le _ _) t.isLt)).2.2.2.2.2 := by
  rw [outsAt0_B m c t h0]
  rfl

end Mla

end
-- ==== Proof.Arrays.lean ====
module

public import proofs.«01_k».proof.Proof.Runs
public import proofs.«01_k».proof.Proof.Gen.KernelIdeal.Value
public import Idealize.ShloMosaic.Lib.StableHlo.RunRead

@[expose] public section

set_option maxRecDepth 16384

noncomputable section

/-! # What the kernel's arrays hold after its run -/

namespace Mla

open Idealize.ShloMosaic Idealize.ShloMosaic.TcCoe Cert.KernelIdeal Cert.KernelIdeal.Gen Cert.KernelIdeal.Value

variable (m : (ℓ : Loc nD τ sig) → Buf (Elt Ideal) ℓ)

/-! ## The operands -/

/-- The tokens. -/
abbrev hA (c : Dev nD) : Arr 4096 4096 := V m c main_v0
/-- The weights of the first norm. -/
abbrev gA (c : Dev nD) : Arr 1 4096 := V m c main_v1
/-- The weights' codes. -/
abbrev wA (c : Dev nD) : Arr 2112 4096 := V m c main_arg2
/-- The weights' scales. -/
abbrev sA (c : Dev nD) : Arr 17 32 := V m c main_arg3
/-- The weights of the query part's norm. -/
abbrev gqA (c : Dev nD) : Arr 1 1536 := V m c main_v2
/-- The weights of the key-value part's norm. -/
abbrev gkvA (c : Dev nD) : Arr 1 512 := V m c main_v3

/-- The kernel's tokens are the first argument, its batch of one folded into the rows. -/
theorem hA_eq (c : Dev nD) :
    hA m c = shapeCast S4096x4096 (m ((c : Thread nD τ).loc main_arg0)) shapeCasts_S1x4096x4096_S4096x4096 := rfl

/-- The kernel's weights of the first norm are the second argument, as one row. -/
theorem gA_eq (c : Dev nD) :
    gA m c = shapeCast S1x4096 (m ((c : Thread nD τ).loc main_arg1)) shapeCasts_S4096_S1x4096 := rfl

/-- The kernel's weights of the query norm are the fifth argument, as one row. -/
theorem gqA_eq (c : Dev nD) :
    gqA m c = shapeCast S1x1536 (m ((c : Thread nD τ).loc main_arg4)) shapeCasts_S1536_S1x1536 := rfl

/-- The kernel's weights of the key-value norm are the sixth argument, as one row. -/
theorem gkvA_eq (c : Dev nD) :
    gkvA m c = shapeCast S1x512 (m ((c : Thread nD τ).loc main_arg5)) shapeCasts_S512_S1x512 := rfl

/-! ## The blocks a point reads -/

/-- Every point reads the first norm's weights whole. -/
theorem gI_eq (c : Dev nD) (t : Fin cfg0.N) : gI m c t = gA m c := by
  have hi : win0_2.index t 0 = 0 ∧ win0_2.index t 1 = 0 :=
    (by decide +kernel : ∀ t : Fin grid0.N, win0_2.index t 0 = 0 ∧ win0_2.index t 1 = 0) t
  funext j
  unfold gI iblk
  rw [View.read_apply]
  show V m c main_v1 _ = V m c main_v1 j
  congr 1
  funext a
  apply Fin.ext
  match a with
  | ⟨0, _⟩ => show win0_2.index t 0 * 1 + 1 * (j 0).val = (j 0).val; rw [hi.1]; omega
  | ⟨1, _⟩ => show win0_2.index t 1 * 4096 + 1 * (j 1).val = (j 1).val; rw [hi.2]; omega

/-- Every point reads the weights' codes whole. -/
theorem wI_eq (c : Dev nD) (t : Fin cfg0.N) : wI m c t = wA m c := by
  have hi : win0_3.index t 0 = 0 ∧ win0_3.index t 1 = 0 :=
    (by decide +kernel : ∀ t : Fin grid0.N, win0_3.index t 0 = 0 ∧ win0_3.index t 1 = 0) t
  funext j
  unfold wI iblk
  rw [View.read_apply]
  show V m c main_arg2 _ = V m c main_arg2 j
  congr 1
  funext a
  apply Fin.ext
  match a with
  | ⟨0, _⟩ => show win0_3.index t 0 * 2112 + 1 * (j 0).val = (j 0).val; rw [hi.1]; omega
  | ⟨1, _⟩ => show win0_3.index t 1 * 4096 + 1 * (j 1).val = (j 1).val; rw [hi.2]; omega

/-- Every point reads the weights' scales whole. -/
theorem sI_eq (c : Dev nD) (t : Fin cfg0.N) : sI m c t = sA m c := by
  have hi : win0_0.index t 0 = 0 ∧ win0_0.index t 1 = 0 :=
    (by decide +kernel : ∀ t : Fin grid0.N, win0_0.index t 0 = 0 ∧ win0_0.index t 1 = 0) t
  funext j
  unfold sI iblk
  rw [View.read_apply]
  show V m c main_arg3 _ = V m c main_arg3 j
  congr 1
  funext a
  apply Fin.ext
  match a with
  | ⟨0, _⟩ => show win0_0.index t 0 * 17 + 1 * (j 0).val = (j 0).val; rw [hi.1]; omega
  | ⟨1, _⟩ => show win0_0.index t 1 * 32 + 1 * (j 1).val = (j 1).val; rw [hi.2]; omega

/-- Every point reads the query norm's weights whole. -/
theorem gqI_eq (c : Dev nD) (t : Fin cfg0.N) : gqI m c t = gqA m c := by
  have hi : win0_4.index t 0 = 0 ∧ win0_4.index t 1 = 0 :=
    (by decide +kernel : ∀ t : Fin grid0.N, win0_4.index t 0 = 0 ∧ win0_4.index t 1 = 0) t
  funext j
  unfold gqI iblk
  rw [View.read_apply]
  show V m c main_v2 _ = V m c main_v2 j
  congr 1
  funext a
  apply Fin.ext
  match a with
  | ⟨0, _⟩ => show win0_4.index t 0 * 1 + 1 * (j 0).val = (j 0).val; rw [hi.1]; omega
  | ⟨1, _⟩ => show win0_4.index t 1 * 1536 + 1 * (j 1).val = (j 1).val; rw [hi.2]; omega

/-- Every point reads the key-value norm's weights whole. -/
theorem gkvI_eq (c : Dev nD) (t : Fin cfg0.N) : gkvI m c t = gkvA m c := by
  have hi : win0_5.index t 0 = 0 ∧ win0_5.index t 1 = 0 :=
    (by decide +kernel : ∀ t : Fin grid0.N, win0_5.index t 0 = 0 ∧ win0_5.index t 1 = 0) t
  funext j
  unfold gkvI iblk
  rw [View.read_apply]
  show V m c main_v3 _ = V m c main_v3 j
  congr 1
  funext a
  apply Fin.ext
  match a with
  | ⟨0, _⟩ => show win0_5.index t 0 * 1 + 1 * (j 0).val = (j 0).val; rw [hi.1]; omega
  | ⟨1, _⟩ => show win0_5.index t 1 * 512 + 1 * (j 1).val = (j 1).val; rw [hi.2]; omega

/-- Row `r` of point `t`'s block is row `256 t + r` of the tokens. -/
theorem hI_row (c : Dev nD) (t : Fin cfg0.N) (r : Fin 256) (i : Fin 4096) (hri : t.val * 256 + r.val = i.val) :
    row (hI m c t) r = row (hA m c) i := by
  have hi : win0_1.index t 0 = t.val ∧ win0_1.index t 1 = 0 :=
    (by decide +kernel : ∀ t : Fin grid0.N, win0_1.index t 0 = t.val ∧ win0_1.index t 1 = 0) t
  funext k
  unfold row hI iblk
  rw [View.read_apply]
  show V m c main_v0 _ = V m c main_v0 (ix2 i k)
  congr 1
  funext a
  apply Fin.ext
  match a with
  | ⟨0, _⟩ => show win0_1.index t 0 * 256 + 1 * r.val = i.val; rw [hi.1]; omega
  | ⟨1, _⟩ => show win0_1.index t 1 * 4096 + 1 * k.val = k.val; rw [hi.2, Nat.zero_mul, Nat.zero_add, Nat.one_mul]

/-! ## Every point -/

/-- The scratch holds the dequantised weights after every point. -/
theorem scratch_at (c : Dev nD) : ∀ (n : ℕ) (hn : n < cfg0.N), (outsAt0 m c n hn).2.2.2.2.2 = wdArr (wA m c) (sA m c)
  | 0, hn => by rw [scratch_A m c ⟨0, hn⟩ rfl, wI_eq, sI_eq]
  | n + 1, hn => by
      have hN : cfg0.N = 16 := N_0
      rw [scratch_B m c ⟨n + 1, hn⟩ (by show ¬(n + 1) % 16 = 0; omega)]
      exact scratch_at c n _

/-- The query part after any point. -/
theorem q_at (c : Dev nD) (t : Fin cfg0.N) :
    (outsAt0 m c t.val t.isLt).1 = qBlk (hI m c t) (gA m c) (wdArr (wA m c) (sA m c)) (gqA m c) := by
  by_cases h0 : t.val % 16 = 0
  · rw [q_A m c t h0, gI_eq, wI_eq, sI_eq, gqI_eq]
  · rw [q_B m c t h0, scratch_at, gI_eq, gqI_eq]

/-- The key-value part after any point. -/
theorem kv_at (c : Dev nD) (t : Fin cfg0.N) :
    (outsAt0 m c t.val t.isLt).2.1 = kvBlk (hI m c t) (gA m c) (wdArr (wA m c) (sA m c)) (gkvA m c) := by
  by_cases h0 : t.val % 16 = 0
  · rw [kv_A m c t h0, gI_eq, wI_eq, sI_eq, gkvI_eq]
  · rw [kv_B m c t h0, scratch_at, gI_eq, gkvI_eq]

/-- The rotary part after any point. -/
theorem pe_at (c : Dev nD) (t : Fin cfg0.N) :
    (outsAt0 m c t.val t.isLt).2.2.1 = peBlk (hI m c t) (gA m c) (wdArr (wA m c) (sA m c)) := by
  by_cases h0 : t.val % 16 = 0
  · rw [pe_A m c t h0, gI_eq, wI_eq, sI_eq]
  · rw [pe_B m c t h0, scratch_at, gI_eq]

/-- The codes after any point. -/
theorem codes_at (c : Dev nD) (t : Fin cfg0.N) :
    (outsAt0 m c t.val t.isLt).2.2.2.1 = codesBlk (hI m c t) (gA m c) := by
  by_cases h0 : t.val % 16 = 0
  · rw [codes_A m c t h0, gI_eq]
  · rw [codes_B m c t h0, gI_eq]

/-- The scales after any point. -/
theorem scales_at (c : Dev nD) (t : Fin cfg0.N) :
    (outsAt0 m c t.val t.isLt).2.2.2.2.1 = scalesBlk (hI m c t) (gA m c) := by
  by_cases h0 : t.val % 16 = 0
  · rw [scales_A m c t h0, gI_eq]
  · rw [scales_B m c t h0, gI_eq]

/-! ## The final arrays -/

/-- The query part. -/
theorem G6_eq (c : Dev nD) : G6 m c = qRes kScale kInv (hA m c) (gA m c) (wA m c) (sA m c) (gqA m c) := by
  funext i
  have h0 : (i 0).val < 4096 := (i 0).isLt
  have h1 : (i 1).val < 1536 := (i 1).isLt
  have hN : cfg0.N = 16 := N_0
  have hp : pt6Of i = (i 0).val / 256 := by
    show 1 * ((i 0).val / 256 - 0) + 1 * ((i 1).val / 1536 - 0) = _
    omega
  have hlt : pt6Of i < cfg0.N := by rw [hp, hN]; omega
  have hr := hI_row m c ⟨pt6Of i, hlt⟩ (loc6Of i 0) (i 0)
    (by show pt6Of i * 256 + (i 0).val % 256 = (i 0).val; rw [hp]; omega)
  have hc : loc6Of i 1 = i 1 := Fin.ext (by show (i 1).val % 1536 = (i 1).val; omega)
  unfold G6
  rw [dif_pos hlt, ← outsAt0_sweep m c _ hlt, q_at m c ⟨pt6Of i, hlt⟩]
  show nrm 1153433600#32 (fun j : Fin 1536 => yr kScale kInv (row (hI m c ⟨pt6Of i, hlt⟩) (loc6Of i 0)) (row (gA m c) 0) (wd (row (wA m c)) (row (sA m c))) (qcol j)) (row (gqA m c) 0) (loc6Of i 1) = _
  rw [hr, hc]
  rfl

/-- The key-value part. -/
theorem G7_eq (c : Dev nD) : G7 m c = kvRes kScale kInv (hA m c) (gA m c) (wA m c) (sA m c) (gkvA m c) := by
  funext i
  have h0 : (i 0).val < 4096 := (i 0).isLt
  have h1 : (i 1).val < 512 := (i 1).isLt
  have hN : cfg0.N = 16 := N_0
  have hp : pt7Of i = (i 0).val / 256 := by
    show 1 * ((i 0).val / 256 - 0) + 1 * ((i 1).val / 512 - 0) = _
    omega
  have hlt : pt7Of i < cfg0.N := by rw [hp, hN]; omega
  have hr := hI_row m c ⟨pt7Of i, hlt⟩ (loc7Of i 0) (i 0)
    (by show pt7Of i * 256 + (i 0).val % 256 = (i 0).val; rw [hp]; omega)
  have hc : loc7Of i 1 = i 1 := Fin.ext (by show (i 1).val % 512 = (i 1).val; omega)
  unfold G7
  rw [dif_pos hlt, ← outsAt0_sweep m c _ hlt, kv_at m c ⟨pt7Of i, hlt⟩]
  show nrm 1140850688#32 (fun j : Fin 512 => yr kScale kInv (row (hI m c ⟨pt7Of i, hlt⟩) (loc7Of i 0)) (row (gA m c) 0) (wd (row (wA m c)) (row (sA m c))) (kvcol j)) (row (gkvA m c) 0) (loc7Of i 1) = _
  rw [hr, hc]
  rfl

/-- The rotary part. -/
theorem G8_eq (c : Dev nD) : G8 m c = peRes kScale kInv (hA m c) (gA m c) (wA m c) (sA m c) := by
  funext i
  have h0 : (i 0).val < 4096 := (i 0).isLt
  have h1 : (i 1).val < 64 := (i 1).isLt
  have hN : cfg0.N = 16 := N_0
  have hp : pt8Of i = (i 0).val / 256 := by
    show 1 * ((i 0).val / 256 - 0) + 1 * ((i 1).val / 64 - 0) = _
    omega
  have hlt : pt8Of i < cfg0.N := by rw [hp, hN]; omega
  have hr := hI_row m c ⟨pt8Of i, hlt⟩ (loc8Of i 0) (i 0)
    (by show pt8Of i * 256 + (i 0).val % 256 = (i 0).val; rw [hp]; omega)
  have hc : loc8Of i 1 = i 1 := Fin.ext (by show (i 1).val % 64 = (i 1).val; omega)
  unfold G8
  rw [dif_pos hlt, ← outsAt0_sweep m c _ hlt, pe_at m c ⟨pt8Of i, hlt⟩]
  show yr kScale kInv (row (hI m c ⟨pt8Of i, hlt⟩) (loc8Of i 0)) (row (gA m c) 0) (wd (row (wA m c)) (row (sA m c))) (pecol (loc8Of i 1)) = _
  rw [hr, hc]
  rfl

/-- The codes. -/
theorem G9_eq (c : Dev nD) : G9 m c = codesRes kInv (hA m c) (gA m c) := by
  funext i
  have h0 : (i 0).val < 4096 := (i 0).isLt
  have h1 : (i 1).val < 4096 := (i 1).isLt
  have hN : cfg0.N = 16 := N_0
  have hp : pt9Of i = (i 0).val / 256 := by
    show 1 * ((i 0).val / 256 - 0) + 1 * ((i 1).val / 4096 - 0) = _
    omega
  have hlt : pt9Of i < cfg0.N := by rw [hp, hN]; omega
  have hr := hI_row m c ⟨pt9Of i, hlt⟩ (loc9Of i 0) (i 0)
    (by show pt9Of i * 256 + (i 0).val % 256 = (i 0).val; rw [hp]; omega)
  have hc : loc9Of i 1 = i 1 := Fin.ext (by show (i 1).val % 4096 = (i 1).val; omega)
  unfold G9
  rw [dif_pos hlt, ← outsAt0_sweep m c _ hlt, codes_at m c ⟨pt9Of i, hlt⟩]
  show codes kInv (row (hI m c ⟨pt9Of i, hlt⟩) (loc9Of i 0)) (row (gA m c) 0) (loc9Of i 1) = _
  rw [hr, hc]
  rfl

/-- The scales. -/
theorem G10_eq (c : Dev nD) : G10 m c = scalesRes kScale (hA m c) (gA m c) := by
  funext i
  have h0 : (i 0).val < 4096 := (i 0).isLt
  have h1 : (i 1).val < 32 := (i 1).isLt
  have hN : cfg0.N = 16 := N_0
  have hp : pt10Of i = (i 0).val / 256 := by
    show 1 * ((i 0).val / 256 - 0) + 1 * ((i 1).val / 32 - 0) = _
    omega
  have hlt : pt10Of i < cfg0.N := by rw [hp, hN]; omega
  have hr := hI_row m c ⟨pt10Of i, hlt⟩ (loc10Of i 0) (i 0)
    (by show pt10Of i * 256 + (i 0).val % 256 = (i 0).val; rw [hp]; omega)
  have hc : loc10Of i 1 = i 1 := Fin.ext (by show (i 1).val % 32 = (i 1).val; omega)
  unfold G10
  rw [dif_pos hlt, ← outsAt0_sweep m c _ hlt, scales_at m c ⟨pt10Of i, hlt⟩]
  show kScale (tg (row (hI m c ⟨pt10Of i, hlt⟩) (loc10Of i 0)) (row (gA m c) 0) (loc10Of i 1)) = _
  rw [hr, hc]
  rfl

end Mla

end
-- ==== Proof.RefOps.lean ====
module

public import proofs.«01_k».proof.Proof.Gen.ReferenceIdeal.Frame
public import proofs.«01_k».proof.Proof.Result
public import Idealize.ShloMosaic.Lib.Pipeline.ValueKit.Tiles

@[expose] public section

set_option maxRecDepth 16384

noncomputable section

/-! # The reference's payloads, read at an index -/

namespace Mla

open Idealize.ShloMosaic Cert.ReferenceIdeal Cert.ReferenceIdeal.Gen

/-! ## The operations over vectors -/

/-- The greatest magnitudes of the groups of `x`, over 448. -/
def rTopV (x : FVec Ideal S4096x32x128 .f32) : FVec Ideal S4096x32 .f32 :=
  have v21 : FVec Ideal S4096x32x128 .f32 := absf x
  have v22 : FVec Ideal S4096x32 .f32 := multiReduction .maximumf [2] S4096x32 v21 0xFF800000#32 reduces_S4096x32x128_S4096x32 (.inl rfl) rfl
  have cst_6 : Ideal .f32 := Scalar.ofBits .f32 0x3B124925#32
  have v23 : FVec Ideal S4096x32 .f32 := broadcast S4096x32 cst_6
  have v24 : FVec Ideal S4096x32 .f32 := mulf v22 v23
  v24

/-- The exponents of `t`. -/
def rExpV (v24 : FVec Ideal S4096x32 .f32) : FVec Ideal S4096x32 .f32 :=
  have cst_7 : Ideal .f32 := Scalar.ofBits .f32 0x00800000#32
  have v25 : FVec Ideal S4096x32 .f32 := broadcast S4096x32 cst_7
  have v26 : IVec S4096x32 1 := cmpf .olt v24 v25
  have v27 : FVec Ideal S4096x32 .f32 := log v24
  have cst_8 : Ideal .f32 := Named.named κ "ln2" 0x3F317218#32
  have v28 : FVec Ideal S4096x32 .f32 := broadcast S4096x32 cst_8
  have v29 : FVec Ideal S4096x32 .f32 := divf v27 v28
  have v30 : FVec Ideal S4096x32 .f32 := floor v29
  have cst_9 : Ideal .f32 := Scalar.ofBits .f32 0x3F800000#32
  have v31 : FVec Ideal S4096x32 .f32 := broadcast S4096x32 cst_9
  have v32 : FVec Ideal S4096x32 .f32 := addf v30 v31
  have cst_10 : Ideal .f32 := Scalar.ofBits .f32 0x00000000#32
  have v33 : FVec Ideal S4096x32 .f32 := broadcast S4096x32 cst_10
  have v34 : FVec Ideal S4096x32 .f32 := select v26 v33 v32
  v34

/-- The products of `x` and the inverse scales of the exponents `e`, clipped from below. -/
def rLowV (x : FVec Ideal S4096x32x128 .f32) (e : FVec Ideal S4096x32 .f32) : FVec Ideal S4096x32x128 .f32 :=
  have cst_11 : Ideal .f32 := Scalar.ofBits .f32 0x00000000#32
  have v36 : FVec Ideal S4096x32 .f32 := broadcast S4096x32 cst_11
  have v37 : FVec Ideal S4096x32 .f32 := subf v36 e
  have v38 : FVec Ideal S4096x32 .f32 := exp2 v37
  have v39 : FVec Ideal S4096x32x1 .f32 := shapeCast S4096x32x1 v38 shapeCasts_S4096x32_S4096x32x1
  have v40 : FVec Ideal S4096x32x128 .f32 := broadcastTo S4096x32x128 v39 broadcasts_S4096x32x1_S4096x32x128
  have v41 : FVec Ideal S4096x32x128 .f32 := mulf x v40
  have cst_12 : Ideal .f32 := Scalar.ofBits .f32 0xC3E00000#32
  have v42 : FVec Ideal S4096x32x128 .f32 := broadcast S4096x32x128 cst_12
  have v43 : FVec Ideal S4096x32x128 .f32 := maximumf v42 v41
  v43

/-- The norm of the query part. -/
def rNrmV (y : FVec Ideal S4096x1536 .f32) (γ : Vec Ideal S1x1536 .bf16) : FVec Ideal S4096x1536 .bf16 :=
  have v70 : FVec Ideal S1x1536 .bf16 := shapeCast S1x1536 γ shapeCasts_S1x1536_S1x1536
  have v71 : FVec Ideal S4096x1536 .f32 := mulf y y
  have v72 : FVec Ideal S4096 .f32 := multiReduction .add [1] S4096 v71 0x00000000#32 reduces_S4096x1536_S4096 (.inl rfl) rfl
  have v73 : FVec Ideal S4096x1 .f32 := shapeCast S4096x1 v72 shapeCasts_S4096_S4096x1
  have cst_22 : Ideal .f32 := Scalar.ofBits .f32 0x44C00000#32
  have v74 : FVec Ideal S4096x1 .f32 := broadcast S4096x1 cst_22
  have v75 : FVec Ideal S4096x1 .f32 := divf v73 v74
  have cst_23 : Ideal .f32 := Scalar.ofBits .f32 0x358637BD#32
  have v76 : FVec Ideal S4096x1 .f32 := broadcast S4096x1 cst_23
  have v77 : FVec Ideal S4096x1 .f32 := addf v75 v76
  have v78 : FVec Ideal S4096x1 .f32 := rsqrt v77
  have v79 : FVec Ideal S4096x1536 .f32 := broadcastTo S4096x1536 v78 broadcasts_S4096x1_S4096x1536
  have v80 : FVec Ideal S4096x1536 .f32 := mulf y v79
  have v81 : FVec Ideal S1x1536 .f32 := extf .f32 v70 bitsLt_bf16_f32
  have v82 : FVec Ideal S4096x1536 .f32 := broadcastTo S4096x1536 v81 broadcasts_S1x1536_S4096x1536
  have v83 : FVec Ideal S4096x1536 .f32 := mulf v80 v82
  have v84 : FVec Ideal S4096x1536 .bf16 := truncf .bf16 v83 bitsLt_bf16_f32
  v84

/-! ## Their readings -/

/-- The index that a reduction over the last axis reads. -/
theorem lift_eq (h : S4096x32x128.Reduces [2] S4096x32) (s : Fin 4096) (g : Fin 32) (k : Fin 128) :
    h.lift (ix2 s g) k = ix3 s g k := by
  funext a
  apply Fin.ext
  match a with
  | ⟨0, _⟩ => rfl
  | ⟨1, _⟩ => rfl
  | ⟨2, _⟩ => rfl

/-- The maximum over the last axis is the maximum of the 128 entries of the group. -/
theorem groupMax_apply (x : FVec Ideal S4096x32x128 .f32) (s : Fin 4096) (g : Fin 32) :
    multiReduction .maximumf [2] S4096x32 x 0xFF800000#32 reduces_S4096x32x128_S4096x32 (.inl rfl) rfl (ix2 s g)
      = Finset.univ.fold max (val 4286578688#32) (fun k : Fin 128 => x (ix3 s g k)) := by
  refine (Ideal.multiReduction_maximumf_single x _ reduces_S4096x32x128_S4096x32 (.inl rfl) rfl (ix2 s g)).trans ?_
  exact congrArg (fun f : Fin 128 → EReal => Finset.univ.fold max (val 4286578688#32) f)
    (funext fun k => congrArg x (lift_eq _ s g k))

/-- The absolute value, entry by entry. -/
theorem absV_apply (x : FVec Ideal S4096x32x128 .f32) (i : S4096x32x128.Idx) : absf x i = max (x i) (-x i) := rfl

/-- The product with a constant, entry by entry. -/
theorem mulV_apply (x : FVec Ideal S4096x32 .f32) (c : Ideal .f32) (i : S4096x32.Idx) :
    mulf x (broadcast S4096x32 c) i = x i * c := rfl

/-- The power of two, entry by entry. -/
theorem exp2V_apply (x : FVec Ideal S4096x32 .f32) (i : S4096x32.Idx) : exp2 x i = Ideal.exp2 (x i) := rfl

/-- The named constant is the logarithm of two. -/
theorem named_ln2 : (Named.named (F := Ideal) κ "ln2" 1060205080#32 : Ideal .f32) = ((Real.log 2 : ℝ) : EReal) := rfl

/-- The reference's quotient: the group's greatest absolute value times the constant 1/448. -/
theorem rTopV_apply (x : FVec Ideal S4096x32x128 .f32) (s : Fin 4096) (g : Fin 32) :
    rTopV x (ix2 s g) = Finset.univ.fold max (val 4286578688#32) (fun k : Fin 128 =>
      max (x (ix3 s g k)) (-x (ix3 s g k))) * val 991054117#32 := by
  unfold rTopV
  dsimp only
  rw [mulV_apply, groupMax_apply]
  simp only [absV_apply]
  rfl

/-- The reference's exponent, entry by entry. -/
theorem rExpV_apply (t : FVec Ideal S4096x32 .f32) (s : Fin 4096) (g : Fin 32) :
    rExpV t (ix2 s g) = rExp (t (ix2 s g)) := by
  pointwise [rExpV]
  rw [named_ln2]
  generalize t (ix2 s g) = t
  rfl

/-- The reference's codes before the upper clip. -/
theorem rLowV_apply (x : FVec Ideal S4096x32x128 .f32) (e : FVec Ideal S4096x32 .f32) (s : Fin 4096) (g : Fin 32) (k : Fin 128) :
    rLowV x e (ix3 s g k) = max (val 3286237184#32) (x (ix3 s g k) * Ideal.exp2 (0 - e (ix2 s g))) := by
  pointwise [rLowV]
  rfl

/-- The reference's norm of the query part. -/
theorem rNrmV_apply (y : FVec Ideal S4096x1536 .f32) (γ : Vec Ideal S1x1536 .bf16) (s : Fin 4096) (j : Fin 1536) :
    rNrmV y γ (ix2 s j) = nrm 1153433600#32 (row y s) (row γ 0) j := by
  pointwise [rNrmV]
  rfl

end Mla

end
-- ==== Proof.Reference.lean ====
module

public import proofs.«01_k».proof.Proof.RefOps

@[expose] public section

set_option maxRecDepth 16384

noncomputable section

/-! # The reference's payloads, read at an index -/

namespace Mla

open Idealize.ShloMosaic Cert.ReferenceIdeal Cert.ReferenceIdeal.Gen

/-- The normed tokens, group by group. -/
theorem pay3_apply (h : Vec Ideal S4096x4096 .bf16) (γ : Vec Ideal S1x4096 .bf16) (s : Fin 4096) (g : Fin 32) (k : Fin 128) :
    k0_pay3 (F := Ideal) h γ (ix3 s g k) = xn (row h s) (row γ 0) (col g k) := by
  pointwise [k0_pay3]
  rfl

/-- The exponents are the operations' of the normed tokens. -/
theorem pay4_eq (h : Vec Ideal S4096x4096 .bf16) (γ : Vec Ideal S1x4096 .bf16) :
    k0_pay4 (F := Ideal) h γ = rExpV (rTopV (k0_pay3 h γ)) := rfl

/-- The clipped products are the operations'. -/
theorem pay6_eq (h : Vec Ideal S4096x4096 .bf16) (γ : Vec Ideal S1x4096 .bf16) :
    k0_pay6 (F := Ideal) h γ = rLowV (k0_pay3 h γ) (k0_pay4 h γ) := rfl

/-- The norm of the query part is the operations'. -/
theorem pay9_eq (v35 : FVec Ideal S4096x32 .f32) (c : Ideal .f32) (v43 : FVec Ideal S4096x32x128 .f32)
    (v55 : Vec Ideal S17x32 .f32) (v64 : Vec Ideal S2112x4096 .fp8e4m3) (v69 : Vec Ideal S1x1536 .bf16) :
    k0_pay9 (F := Ideal) v35 c v43 v55 v64 v69 = rNrmV (extractStridedSlice S4096x1536 ![0, 0] (k0_pay8 v35 c v43 v55 v64) slices_S4096x2112_o0_0_S4096x1536) v69 := rfl

/-- The exponents. -/
theorem pay4_apply (h : Vec Ideal S4096x4096 .bf16) (γ : Vec Ideal S1x4096 .bf16) (s : Fin 4096) (g : Fin 32) :
    k0_pay4 (F := Ideal) h γ (ix2 s g) = rExp (tg (row h s) (row γ 0) g) := by
  rw [pay4_eq, rExpV_apply, rTopV_apply]
  simp only [pay3_apply]
  rfl

/-- The scales. -/
theorem pay5_apply (h : Vec Ideal S4096x4096 .bf16) (γ : Vec Ideal S1x4096 .bf16) (s : Fin 4096) (g : Fin 32) :
    k0_pay5 (F := Ideal) h γ (ix2 s g) = rScale (tg (row h s) (row γ 0) g) := by
  unfold k0_pay5
  rw [exp2V_apply, pay4_apply]
  rfl

/-- The clipped products from below. -/
theorem pay6_apply (h : Vec Ideal S4096x4096 .bf16) (γ : Vec Ideal S1x4096 .bf16) (s : Fin 4096) (g : Fin 32) (k : Fin 128) :
    k0_pay6 (F := Ideal) h γ (ix3 s g k)
      = max (val 3286237184#32) (xn (row h s) (row γ 0) (col g k) * rInv (tg (row h s) (row γ 0) g)) := by
  rw [pay6_eq, rLowV_apply, pay3_apply, pay4_apply]
  rfl

/-- The codes of the clipped products `v`. -/
theorem pay7_apply (c : Ideal .f32) (v : FVec Ideal S4096x32x128 .f32) (s k : Fin 4096) :
    k0_pay7 (F := Ideal) c v (ix2 s k) = min c (v (ix3 s (grp k) ⟨k.val % 128, Nat.mod_lt _ (by omega)⟩)) := by
  pointwise [k0_pay7]
  rfl

/-- The products of the dequantised codes and the dequantised weights. -/
theorem pay8_apply (v35 : FVec Ideal S4096x32 .f32) (c : Ideal .f32) (v43 : FVec Ideal S4096x32x128 .f32)
    (v55 : Vec Ideal S17x32 .f32) (v64 : Vec Ideal S2112x4096 .fp8e4m3) (s : Fin 4096) (n : Fin 2112) :
    k0_pay8 (F := Ideal) v35 c v43 v55 v64 (ix2 s n)
      = ∑ k, k0_pay7 (F := Ideal) c v43 (ix2 s k) * v35 (ix2 s (grp k)) * wd (row v64) (row v55) n k := by
  pointwise [k0_pay8]
  rfl

/-- The key-value part's norm. -/
theorem pay1_apply (y : FVec Ideal S4096x512 .f32) (γ : FVec Ideal S1x512 .bf16) (s : Fin 4096) (j : Fin 512) :
    k0_pay1 (F := Ideal) y γ (ix2 s j) = nrm 1140850688#32 (row y s) (row γ 0) j := by
  pointwise [k0_pay1]
  rfl

/-- The query part's columns. -/
theorem qSlice_apply (y : FVec Ideal S4096x2112 .f32) (s : Fin 4096) (j : Fin 1536) :
    extractStridedSlice S4096x1536 ![0, 0] y slices_S4096x2112_o0_0_S4096x1536 (ix2 s j) = y (ix2 s (qcol j)) := by
  pointwise []
  rfl

/-- The key-value part's columns. -/
theorem kvSlice_apply (y : FVec Ideal S4096x2112 .f32) (s : Fin 4096) (j : Fin 512) :
    extractStridedSlice S4096x512 ![0, 1536] y slices_S4096x2112_o0_1536_S4096x512 (ix2 s j) = y (ix2 s (kvcol j)) := by
  pointwise []
  rfl

/-- The rotary part's columns. -/
theorem pay2_apply (y : FVec Ideal S4096x2112 .f32) (s : Fin 4096) (j : Fin 64) :
    k0_pay2 (F := Ideal) y (ix2 s j) = y (ix2 s (pecol j)) := by
  pointwise [k0_pay2]
  rfl

/-- The key-value norm's weights. -/
theorem pay11_eq (γ : Vec Ideal S1x512 .bf16) : k0_pay11 (F := Ideal) γ = γ := by
  funext j
  pointwise [k0_pay11]

/-! ## The outputs over whole operands -/

/-- The offset written as two zeros is the zero offset. -/
theorem zeros2 : (![0, 0] : Fin 2 → ℕ) = fun _ => 0 := funext fun a => by fin_cases a <;> rfl

/-- An index of two axes is the pair of its entries. -/
theorem ix2_eta {m n : ℕ} (y : (⟨2, ![m, n]⟩ : Shape).Idx) : y = ix2 (y 0) (y 1) := by
  funext a
  match a with
  | ⟨0, _⟩ => rfl
  | ⟨1, _⟩ => rfl

/-- Arrays equal at every row and column are equal. -/
theorem arr_ext {m n : ℕ} {f g : Arr m n} (h : ∀ s j, f (ix2 s j) = g (ix2 s j)) : f = g := by
  funext y
  rw [ix2_eta y]
  exact h (y 0) (y 1)

/-- A column is the column of its group at its remainder by 128. -/
theorem col_grp_mod (k : Fin 4096) : col (grp k) ⟨k.val % 128, Nat.mod_lt _ (by omega)⟩ = k :=
  Fin.ext (by show k.val / 128 * 128 + k.val % 128 = k.val; omega)

/-- The codes at an index. -/
theorem rCodes_apply (h : Vec Ideal S4096x4096 .bf16) (γ : Vec Ideal S1x4096 .bf16) (s k : Fin 4096) :
    k0_pay7 (F := Ideal) (Scalar.ofBits .f32 0x43E00000#32) (k0_pay6 h γ) (ix2 s k) = codes rInv (row h s) (row γ 0) k := by
  rw [pay7_apply, pay6_apply, col_grp_mod]
  rfl

/-- The products at an index. -/
theorem rProd_apply (h : Vec Ideal S4096x4096 .bf16) (γ : Vec Ideal S1x4096 .bf16) (w : Vec Ideal S2112x4096 .fp8e4m3)
    (sc : Vec Ideal S17x32 .f32) (s : Fin 4096) (n : Fin 2112) :
    k0_pay8 (F := Ideal) (k0_pay5 h γ) (Scalar.ofBits .f32 0x43E00000#32) (k0_pay6 h γ) sc w (ix2 s n)
      = yr rScale rInv (row h s) (row γ 0) (wd (row w) (row sc)) n := by
  rw [pay8_apply]
  refine Finset.sum_congr rfl fun k _ => ?_
  rw [rCodes_apply, pay5_apply]
  rfl

variable (h : Vec Ideal S4096x4096 .bf16) (γ : Vec Ideal S1x4096 .bf16) (w : Vec Ideal S2112x4096 .fp8e4m3)
  (sc : Vec Ideal S17x32 .f32) (gq : Vec Ideal S1x1536 .bf16) (gkv : Vec Ideal S1x512 .bf16)

/-- The query part. -/
theorem out6_eq : out0_6 (F := Ideal) h γ w sc gq gkv = qRes rScale rInv h γ w sc gq := by
  unfold out0_6 k0_pay13 k0_pay12
  rw [View.canon_unit_zero zeros2]
  simp only [View.ld_unit_zero (S := S4096x4096) zeros2, View.ld_unit_zero (S := S1x4096) zeros2, View.ld_unit_zero (S := S17x32) zeros2,
    View.ld_unit_zero (S := S2112x4096) zeros2, View.ld_unit_zero (S := S1x1536) zeros2]
  refine arr_ext fun s j => ?_
  rw [pay9_eq, rNrmV_apply]
  refine congrArg (fun f => nrm 1153433600#32 f (row gq 0) j) (funext fun i => ?_)
  exact (qSlice_apply _ s i).trans (rProd_apply h γ w sc s (qcol i))

/-- The key-value part. -/
theorem out7_eq : out0_7 (F := Ideal) h γ w sc gq gkv = kvRes rScale rInv h γ w sc gkv := by
  unfold out0_7 k0_pay13 k0_pay12
  rw [View.canon_unit_zero zeros2]
  simp only [View.ld_unit_zero (S := S4096x4096) zeros2, View.ld_unit_zero (S := S1x4096) zeros2, View.ld_unit_zero (S := S17x32) zeros2,
    View.ld_unit_zero (S := S2112x4096) zeros2, View.ld_unit_zero (S := S1x512) zeros2]
  refine arr_ext fun s j => ?_
  rw [pay1_apply, pay11_eq]
  refine congrArg (fun f => nrm 1140850688#32 f (row gkv 0) j) (funext fun i => ?_)
  exact (kvSlice_apply _ s i).trans (rProd_apply h γ w sc s (kvcol i))

/-- The rotary part. -/
theorem out8_eq : out0_8 (F := Ideal) h γ w sc gq gkv = peRes rScale rInv h γ w sc := by
  unfold out0_8 k0_pay13 k0_pay12
  rw [View.canon_unit_zero zeros2]
  simp only [View.ld_unit_zero (S := S4096x4096) zeros2, View.ld_unit_zero (S := S1x4096) zeros2, View.ld_unit_zero (S := S17x32) zeros2,
    View.ld_unit_zero (S := S2112x4096) zeros2]
  refine arr_ext fun s j => ?_
  rw [pay2_apply]
  exact rProd_apply h γ w sc s (pecol j)

/-- The codes. -/
theorem out9_eq : out0_9 (F := Ideal) h γ w sc gq gkv = codesRes rInv h γ := by
  unfold out0_9 k0_pay13
  rw [View.canon_unit_zero zeros2]
  simp only [View.ld_unit_zero (S := S4096x4096) zeros2, View.ld_unit_zero (S := S1x4096) zeros2]
  refine arr_ext fun s j => ?_
  exact rCodes_apply h γ s j

/-- The scales. -/
theorem out10_eq : out0_10 (F := Ideal) h γ w sc gq gkv = scalesRes rScale h γ := by
  unfold out0_10 k0_pay12
  rw [View.canon_unit_zero zeros2]
  simp only [View.ld_unit_zero (S := S4096x4096) zeros2, View.ld_unit_zero (S := S1x4096) zeros2]
  refine arr_ext fun s j => ?_
  exact pay5_apply h γ s j

end Mla

end
-- ==== Proof.RefRun.lean ====
module

public import proofs.«01_k».proof.Proof.Gen.ReferenceIdeal.Value
public import proofs.«01_k».proof.Proof.Reference
public import Idealize.ShloMosaic.Lib.StableHlo.RunRead

@[expose] public section

set_option maxRecDepth 16384

noncomputable section

/-! # What the reference's arrays hold after its run -/

namespace Mla

open Idealize.ShloMosaic Idealize.ShloMosaic.TcCoe Cert.ReferenceIdeal Cert.ReferenceIdeal.Gen Cert.ReferenceIdeal.Value

variable (m : (ℓ : Loc nD τ sig) → Buf (Elt Ideal) ℓ)

/-! ## The operands -/

/-- The tokens. -/
abbrev hR (c : Dev nD) : Arr 4096 4096 := V m c main_v0

/-- The weights of the first norm. -/
abbrev gR (c : Dev nD) : Arr 1 4096 := V m c main_v1

/-- The weights' codes. -/
abbrev wR (c : Dev nD) : Arr 2112 4096 := V m c main_arg2

/-- The weights' scales. -/
abbrev sR (c : Dev nD) : Arr 17 32 := V m c main_arg3

/-- The weights of the query part's norm. -/
abbrev gqR (c : Dev nD) : Arr 1 1536 := V m c main_v2

/-- The weights of the key-value part's norm. -/
abbrev gkvR (c : Dev nD) : Arr 1 512 := V m c main_v3

/-- The reference's tokens are the first argument, its batch of one folded into the rows. -/
theorem hR_eq (c : Dev nD) :
    hR m c = shapeCast S4096x4096 (m ((c : Thread nD τ).loc main_arg0)) shapeCasts_S1x4096x4096_S4096x4096 := rfl

/-- The reference's weights of the first norm are the second argument, as one row. -/
theorem gR_eq (c : Dev nD) :
    gR m c = shapeCast S1x4096 (m ((c : Thread nD τ).loc main_arg1)) shapeCasts_S4096_S1x4096 := rfl

/-- The reference's weights of the query norm are the fifth argument, as one row. -/
theorem gqR_eq (c : Dev nD) :
    gqR m c = shapeCast S1x1536 (m ((c : Thread nD τ).loc main_arg4)) shapeCasts_S1536_S1x1536 := rfl

/-- The reference's weights of the key-value norm are the sixth argument, as one row. -/
theorem gkvR_eq (c : Dev nD) :
    gkvR m c = shapeCast S1x512 (m ((c : Thread nD τ).loc main_arg5)) shapeCasts_S512_S1x512 := rfl

/-! ## The one point reads the operands whole -/

/-- The reference's block of tokens is the whole array of tokens. -/
theorem ref_h (c : Dev nD) (t : Fin cfg0.N) : iblk m c 0 t = hR m c := by
  have hi : win0_0.index t 0 = 0 ∧ win0_0.index t 1 = 0 :=
    (by decide +kernel : ∀ t : Fin grid0.N, win0_0.index t 0 = 0 ∧ win0_0.index t 1 = 0) t
  funext j
  unfold iblk
  rw [View.read_apply]
  show V m c main_v0 _ = V m c main_v0 j
  congr 1
  funext a
  apply Fin.ext
  match a with
  | ⟨0, _⟩ => show win0_0.index t 0 * 4096 + 1 * (j 0).val = (j 0).val; rw [hi.1, Nat.zero_mul, Nat.zero_add, Nat.one_mul]
  | ⟨1, _⟩ => show win0_0.index t 1 * 4096 + 1 * (j 1).val = (j 1).val; rw [hi.2, Nat.zero_mul, Nat.zero_add, Nat.one_mul]

/-- The reference's block of the first norm's weights is the whole row. -/
theorem ref_g (c : Dev nD) (t : Fin cfg0.N) : iblk m c 1 t = gR m c := by
  have hi : win0_1.index t 0 = 0 ∧ win0_1.index t 1 = 0 :=
    (by decide +kernel : ∀ t : Fin grid0.N, win0_1.index t 0 = 0 ∧ win0_1.index t 1 = 0) t
  funext j
  unfold iblk
  rw [View.read_apply]
  show V m c main_v1 _ = V m c main_v1 j
  congr 1
  funext a
  apply Fin.ext
  match a with
  | ⟨0, _⟩ => show win0_1.index t 0 * 1 + 1 * (j 0).val = (j 0).val; rw [hi.1, Nat.zero_mul, Nat.zero_add, Nat.one_mul]
  | ⟨1, _⟩ => show win0_1.index t 1 * 4096 + 1 * (j 1).val = (j 1).val; rw [hi.2, Nat.zero_mul, Nat.zero_add, Nat.one_mul]

/-- The reference's block of projection codes is the whole array. -/
theorem ref_w (c : Dev nD) (t : Fin cfg0.N) : iblk m c 2 t = wR m c := by
  have hi : win0_2.index t 0 = 0 ∧ win0_2.index t 1 = 0 :=
    (by decide +kernel : ∀ t : Fin grid0.N, win0_2.index t 0 = 0 ∧ win0_2.index t 1 = 0) t
  funext j
  unfold iblk
  rw [View.read_apply]
  show V m c main_arg2 _ = V m c main_arg2 j
  congr 1
  funext a
  apply Fin.ext
  match a with
  | ⟨0, _⟩ => show win0_2.index t 0 * 2112 + 1 * (j 0).val = (j 0).val; rw [hi.1, Nat.zero_mul, Nat.zero_add, Nat.one_mul]
  | ⟨1, _⟩ => show win0_2.index t 1 * 4096 + 1 * (j 1).val = (j 1).val; rw [hi.2, Nat.zero_mul, Nat.zero_add, Nat.one_mul]

/-- The reference's block of projection scales is the whole array. -/
theorem ref_s (c : Dev nD) (t : Fin cfg0.N) : iblk m c 3 t = sR m c := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_arg3 _ = V m c main_arg3 j
  congr 1
  funext a
  apply Fin.ext
  match a with
  | ⟨0, _⟩ => show win0_3.index t 0 * 17 + 1 * (j 0).val = (j 0).val; rw [hi.1, Nat.zero_mul, Nat.zero_add, Nat.one_mul]
  | ⟨1, _⟩ => show win0_3.index t 1 * 32 + 1 * (j 1).val = (j 1).val; rw [hi.2, Nat.zero_mul, Nat.zero_add, Nat.one_mul]

/-- The reference's block of the query norm's weights is the whole row. -/
theorem ref_gq (c : Dev nD) (t : Fin cfg0.N) : iblk m c 4 t = gqR m c := by
  have hi : win0_4.index t 0 = 0 ∧ win0_4.index t 1 = 0 :=
    (by decide +kernel : ∀ t : Fin grid0.N, win0_4.index t 0 = 0 ∧ win0_4.index t 1 = 0) t
  funext j
  unfold iblk
  rw [View.read_apply]
  show V m c main_v2 _ = V m c main_v2 j
  congr 1
  funext a
  apply Fin.ext
  match a with
  | ⟨0, _⟩ => show win0_4.index t 0 * 1 + 1 * (j 0).val = (j 0).val; rw [hi.1, Nat.zero_mul, Nat.zero_add, Nat.one_mul]
  | ⟨1, _⟩ => show win0_4.index t 1 * 1536 + 1 * (j 1).val = (j 1).val; rw [hi.2, Nat.zero_mul, Nat.zero_add, Nat.one_mul]

/-- The reference's block of the key-value norm's weights is the whole row. -/
theorem ref_gkv (c : Dev nD) (t : Fin cfg0.N) : iblk m c 5 t = gkvR m c := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  show V m c main_v3 _ = V m c main_v3 j
  congr 1
  funext a
  apply Fin.ext
  match a with
  | ⟨0, _⟩ => show win0_5.index t 0 * 1 + 1 * (j 0).val = (j 0).val; rw [hi.1, Nat.zero_mul, Nat.zero_add, Nat.one_mul]
  | ⟨1, _⟩ => show win0_5.index t 1 * 512 + 1 * (j 1).val = (j 1).val; rw [hi.2, Nat.zero_mul, Nat.zero_add, Nat.one_mul]

/-! ## The final arrays -/

/-- The query part. -/
theorem final6_eq (c : Dev nD) : (dats m 0 c).arrAt 6 cfg0.N = qRes rScale rInv (hR m c) (gR m c) (wR m c) (sR m c) (gqR m c) := by
  have hi : win0_6.index t0_0 0 = 0 ∧ win0_6.index t0_0 1 = 0 := by decide +kernel
  have h := (blocks6 m c t0_0 (by decide +kernel)).trans (flushed6 m c t0_0)
  rw [ref_h, ref_g, ref_w, ref_s, ref_gq, ref_gkv, out6_eq] at h
  refine arr_ext fun s j => ?_
  have hy := congrFun h (ix2 s j)
  rw [View.read_apply] at hy
  refine Eq.trans (congrArg ((dats m 0 c).arrAt 6 cfg0.N) ?_) hy
  funext a
  apply Fin.ext
  match a with
  | ⟨0, _⟩ => show s.val = win0_6.index t0_0 0 * 4096 + 1 * s.val; rw [hi.1, Nat.zero_mul, Nat.zero_add, Nat.one_mul]
  | ⟨1, _⟩ => show j.val = win0_6.index t0_0 1 * 1536 + 1 * j.val; rw [hi.2, Nat.zero_mul, Nat.zero_add, Nat.one_mul]

/-- The key-value part. -/
theorem final7_eq (c : Dev nD) : (dats m 0 c).arrAt 7 cfg0.N = kvRes rScale rInv (hR m c) (gR m c) (wR m c) (sR m c) (gkvR m c) := by
  have hi : win0_7.index t0_0 0 = 0 ∧ win0_7.index t0_0 1 = 0 := by decide +kernel
  have h := (blocks7 m c t0_0 (by decide +kernel)).trans (flushed7 m c t0_0)
  rw [ref_h, ref_g, ref_w, ref_s, ref_gq, ref_gkv, out7_eq] at h
  refine arr_ext fun s j => ?_
  have hy := congrFun h (ix2 s j)
  rw [View.read_apply] at hy
  refine Eq.trans (congrArg ((dats m 0 c).arrAt 7 cfg0.N) ?_) hy
  funext a
  apply Fin.ext
  match a with
  | ⟨0, _⟩ => show s.val = win0_7.index t0_0 0 * 4096 + 1 * s.val; rw [hi.1, Nat.zero_mul, Nat.zero_add, Nat.one_mul]
  | ⟨1, _⟩ => show j.val = win0_7.index t0_0 1 * 512 + 1 * j.val; rw [hi.2, Nat.zero_mul, Nat.zero_add, Nat.one_mul]

/-- The rotary part. -/
theorem final8_eq (c : Dev nD) : (dats m 0 c).arrAt 8 cfg0.N = peRes rScale rInv (hR m c) (gR m c) (wR m c) (sR m c) := by
  have hi : win0_8.index t0_0 0 = 0 ∧ win0_8.index t0_0 1 = 0 := by decide +kernel
  have h := (blocks8 m c t0_0 (by decide +kernel)).trans (flushed8 m c t0_0)
  rw [ref_h, ref_g, ref_w, ref_s, ref_gq, ref_gkv, out8_eq] at h
  refine arr_ext fun s j => ?_
  have hy := congrFun h (ix2 s j)
  rw [View.read_apply] at hy
  refine Eq.trans (congrArg ((dats m 0 c).arrAt 8 cfg0.N) ?_) hy
  funext a
  apply Fin.ext
  match a with
  | ⟨0, _⟩ => show s.val = win0_8.index t0_0 0 * 4096 + 1 * s.val; rw [hi.1, Nat.zero_mul, Nat.zero_add, Nat.one_mul]
  | ⟨1, _⟩ => show j.val = win0_8.index t0_0 1 * 64 + 1 * j.val; rw [hi.2, Nat.zero_mul, Nat.zero_add, Nat.one_mul]

/-- The codes. -/
theorem final9_eq (c : Dev nD) : (dats m 0 c).arrAt 9 cfg0.N = codesRes rInv (hR m c) (gR m c) := by
  have hi : win0_9.index t0_0 0 = 0 ∧ win0_9.index t0_0 1 = 0 := by decide +kernel
  have h := (blocks9 m c t0_0 (by decide +kernel)).trans (flushed9 m c t0_0)
  rw [ref_h, ref_g, ref_w, ref_s, ref_gq, ref_gkv, out9_eq] at h
  refine arr_ext fun s j => ?_
  have hy := congrFun h (ix2 s j)
  rw [View.read_apply] at hy
  refine Eq.trans (congrArg ((dats m 0 c).arrAt 9 cfg0.N) ?_) hy
  funext a
  apply Fin.ext
  match a with
  | ⟨0, _⟩ => show s.val = win0_9.index t0_0 0 * 4096 + 1 * s.val; rw [hi.1, Nat.zero_mul, Nat.zero_add, Nat.one_mul]
  | ⟨1, _⟩ => show j.val = win0_9.index t0_0 1 * 4096 + 1 * j.val; rw [hi.2, Nat.zero_mul, Nat.zero_add, Nat.one_mul]

/-- The scales. -/
theorem final10_eq (c : Dev nD) : (dats m 0 c).arrAt 10 cfg0.N = scalesRes rScale (hR m c) (gR m c) := by
  have hi : win0_10.index t0_0 0 = 0 ∧ win0_10.index t0_0 1 = 0 := by decide +kernel
  have h := (blocks10 m c t0_0 (by decide +kernel)).trans (flushed10 m c t0_0)
  rw [ref_h, ref_g, ref_w, ref_s, ref_gq, ref_gkv, out10_eq] at h
  refine arr_ext fun s j => ?_
  have hy := congrFun h (ix2 s j)
  rw [View.read_apply] at hy
  refine Eq.trans (congrArg ((dats m 0 c).arrAt 10 cfg0.N) ?_) hy
  funext a
  apply Fin.ext
  match a with
  | ⟨0, _⟩ => show s.val = win0_10.index t0_0 0 * 4096 + 1 * s.val; rw [hi.1, Nat.zero_mul, Nat.zero_add, Nat.one_mul]
  | ⟨1, _⟩ => show j.val = win0_10.index t0_0 1 * 32 + 1 * j.val; rw [hi.2, Nat.zero_mul, Nat.zero_add, Nat.one_mul]

end Mla

end
-- ==== Proof.Finite.lean ====
module

public import proofs.«01_k».proof.Pre_gamma_is_finite
public import proofs.«01_k».proof.Proof.Gen.Pre_gamma_is_finite
public import proofs.«01_k».proof.Proof.Result

@[expose] public section

noncomputable section

/-! # What the precondition says of the weights of the first norm -/

namespace Mla

open Idealize.ShloMosaic

/-- The greatest finite number of the weights' format lies under `2 ^ 128`. -/
theorem val_max : ∃ e : ℝ, val 2139029504#32 = (e : EReal) ∧ e ≤ (2 : ℝ) ^ (128 : ℤ) :=
  ⟨_, val_normal 254 8323072 rfl rfl rfl (by omega) (by omega), by norm_num⟩

/-- A number whose magnitude is at most a real is a real of at most that magnitude. -/
theorem real_of_abs_le {x : EReal} {e : ℝ} (h : max x (-x) ≤ (e : EReal)) : ∃ g : ℝ, x = (g : EReal) ∧ |g| ≤ e := by
  induction x with
  | bot => simp at h
  | top => simp at h
  | coe g =>
    refine ⟨g, rfl, abs_le'.mpr ⟨?_, ?_⟩⟩
    · exact EReal.coe_le_coe_iff.mp ((le_max_left _ _).trans h)
    · exact EReal.coe_le_coe_iff.mp (by rw [EReal.coe_neg]; exact (le_max_right _ _).trans h)

/-- The host's comparison at one weight. -/
theorem finite_at (g : (⟨1, ![4096]⟩ : Shape).Idx → EReal) (c : EReal) (i : (⟨1, ![4096]⟩ : Shape).Idx)
    (h : BitVec.ofBool (decide (max (g i) (-g i) ≤ c)) = 1#1) : max (g i) (-g i) ≤ c := by
  by_contra hn
  rw [decide_eq_false hn] at h
  exact absurd h (by decide)

/-- The precondition bounds the weights, reshaped to one row. -/
theorem fin128_of (a0 : FVec Ideal ⟨3, ![1, 4096, 4096]⟩ .bf16) (g : FVec Ideal ⟨1, ![4096]⟩ .bf16)
    (a2 : FVec Ideal ⟨2, ![2112, 4096]⟩ .fp8e4m3) (a3 : FVec Ideal ⟨2, ![17, 32]⟩ .f32)
    (a4 : FVec Ideal ⟨1, ![1536]⟩ .bf16) (a5 : FVec Ideal ⟨1, ![512]⟩ .bf16)
    (hs : (⟨1, ![4096]⟩ : Shape).ShapeCasts ⟨2, ![1, 4096]⟩)
    (h : ∀ i, Cert.Pre_gamma_is_finite.fn (F := Ideal) a0 g a2 a3 a4 a5 i = 1#1) :
    Fin128 (row (shapeCast ⟨2, ![1, 4096]⟩ g hs) 0) := by
  intro k
  obtain ⟨e, he, hle⟩ := val_max
  have e1 : row (shapeCast ⟨2, ![1, 4096]⟩ g hs) 0 k = g (ix1 k) := by
    unfold row
    pointwise []
  have h1 := finite_at g (val 2139029504#32) (ix1 k) (h (ix1 k))
  rw [he] at h1
  obtain ⟨r, hr, hb⟩ := real_of_abs_le h1
  exact ⟨r, by rw [e1, hr], hb.trans hle⟩

end Mla

end
-- ==== Proof.Agree.lean ====
module

public import proofs.«01_k».proof.Defs
public import proofs.«01_k».proof.Proof.Arrays
public import proofs.«01_k».proof.Proof.RefRun
public import proofs.«01_k».proof.Proof.Finite

@[expose] public section

set_option maxRecDepth 16384

noncomputable section

/-! # The kernel and the reference from equal arguments -/

namespace Mla

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments. -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- Equal arguments give both sides the same tokens. -/
theorem h_agree (ha : Agree m m') (c : Dev Cert.KernelIdeal.nD) : hR m' c = hA m c :=
  (hR_eq m' c).trans ((congrArg (fun x => shapeCast _ x _) (ha c).1).trans (hA_eq m c).symm)

/-- Equal arguments give both sides the same weights of the first norm. -/
theorem g_agree (ha : Agree m m') (c : Dev Cert.KernelIdeal.nD) : gR m' c = gA m c :=
  (gR_eq m' c).trans ((congrArg (fun x => shapeCast _ x _) (ha c).2.1).trans (gA_eq m c).symm)

/-- Equal arguments give both sides the same weights of the query norm. -/
theorem gq_agree (ha : Agree m m') (c : Dev Cert.KernelIdeal.nD) : gqR m' c = gqA m c :=
  (gqR_eq m' c).trans ((congrArg (fun x => shapeCast _ x _) (ha c).2.2.2.2.1).trans (gqA_eq m c).symm)

/-- Equal arguments give both sides the same weights of the key-value norm. -/
theorem gkv_agree (ha : Agree m m') (c : Dev Cert.KernelIdeal.nD) : gkvR m' c = gkvA m c :=
  (gkvR_eq m' c).trans ((congrArg (fun x => shapeCast _ x _) (ha c).2.2.2.2.2).trans (gkvA_eq m c).symm)

/-- Equal arguments give both sides the same projection codes. -/
theorem w_agree (ha : Agree m m') (c : Dev Cert.KernelIdeal.nD) : wR m' c = wA m c :=
  (Cert.ReferenceIdeal.Gen.V_main_arg2 m' c).trans ((ha c).2.2.1.trans (Cert.KernelIdeal.Gen.V_main_arg2 m c).symm)

/-- Equal arguments give both sides the same projection scales. -/
theorem s_agree (ha : Agree m m') (c : Dev Cert.KernelIdeal.nD) : sR m' c = sA m c :=
  (Cert.ReferenceIdeal.Gen.V_main_arg3 m' c).trans ((ha c).2.2.2.1.trans (Cert.KernelIdeal.Gen.V_main_arg3 m c).symm)

/-- Under the precondition the first norm's weights are finite. -/
theorem gA_finite (hp : Cert.Pre_KernelIdeal_gamma_is_finite m) (c : Dev Cert.KernelIdeal.nD) : Fin128 (row (gA m c) 0) := by
  rw [gA_eq]
  exact fin128_of _ _ _ _ _ _ _ fun i => congrFun (hp c) i

/-! ## The reference's final arrays are the kernel's -/

/-- The query part. -/
theorem q_same (hp : Cert.Pre_KernelIdeal_gamma_is_finite m) (ha : Agree m m') (c : Dev Cert.KernelIdeal.nD) :
    (Cert.ReferenceIdeal.Gen.dats m' 0 c).arrAt 6 Cert.ReferenceIdeal.cfg0.N = Cert.KernelIdeal.Value.G6 m c := by
  refine (final6_eq m' c).trans (Eq.trans ?_ (G6_eq m c).symm)
  rw [h_agree m m' ha c, g_agree m m' ha c, w_agree m m' ha c, s_agree m m' ha c, gq_agree m m' ha c]
  exact (qRes_eq _ _ _ _ _ (gA_finite m hp c)).symm

/-- The key-value part. -/
theorem kv_same (hp : Cert.Pre_KernelIdeal_gamma_is_finite m) (ha : Agree m m') (c : Dev Cert.KernelIdeal.nD) :
    (Cert.ReferenceIdeal.Gen.dats m' 0 c).arrAt 7 Cert.ReferenceIdeal.cfg0.N = Cert.KernelIdeal.Value.G7 m c := by
  refine (final7_eq m' c).trans (Eq.trans ?_ (G7_eq m c).symm)
  rw [h_agree m m' ha c, g_agree m m' ha c, w_agree m m' ha c, s_agree m m' ha c, gkv_agree m m' ha c]
  exact (kvRes_eq _ _ _ _ _ (gA_finite m hp c)).symm

/-- The rotary part. -/
theorem pe_same (hp : Cert.Pre_KernelIdeal_gamma_is_finite m) (ha : Agree m m') (c : Dev Cert.KernelIdeal.nD) :
    (Cert.ReferenceIdeal.Gen.dats m' 0 c).arrAt 8 Cert.ReferenceIdeal.cfg0.N = Cert.KernelIdeal.Value.G8 m c := by
  refine (final8_eq m' c).trans (Eq.trans ?_ (G8_eq m c).symm)
  rw [h_agree m m' ha c, g_agree m m' ha c, w_agree m m' ha c, s_agree m m' ha c]
  exact (peRes_eq _ _ _ _ (gA_finite m hp c)).symm

/-- The codes. -/
theorem codes_same (hp : Cert.Pre_KernelIdeal_gamma_is_finite m) (ha : Agree m m') (c : Dev Cert.KernelIdeal.nD) :
    (Cert.ReferenceIdeal.Gen.dats m' 0 c).arrAt 9 Cert.ReferenceIdeal.cfg0.N = Cert.KernelIdeal.Value.G9 m c := by
  refine (final9_eq m' c).trans (Eq.trans ?_ (G9_eq m c).symm)
  rw [h_agree m m' ha c, g_agree m m' ha c]
  exact (codesRes_eq _ _ (gA_finite m hp c)).symm

/-- The scales. -/
theorem scales_same (hp : Cert.Pre_KernelIdeal_gamma_is_finite m) (ha : Agree m m') (c : Dev Cert.KernelIdeal.nD) :
    (Cert.ReferenceIdeal.Gen.dats m' 0 c).arrAt 10 Cert.ReferenceIdeal.cfg0.N = Cert.KernelIdeal.Value.G10 m c := by
  refine (final10_eq m' c).trans (Eq.trans ?_ (G10_eq m c).symm)
  rw [h_agree m m' ha c, g_agree m m' ha c]
  exact (scalesRes_eq _ _ (gA_finite m hp c)).symm

end Mla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gamma_is_finite
public import proofs.«01_k».proof.Proof.Gen.KernelIdeal.Value
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From equal arguments, the first norm's weights finite, the kernel's five results at the extended reals are the reference's. -/
theorem algebraic : Cert.algebraic_KernelIdeal_ReferenceIdeal_pre_gamma_is_finite
    (hKernelIdeal := Cert.KernelIdeal.Gen.facts) (hReferenceIdeal := Cert.ReferenceIdeal.Gen.facts)
    (hPre_gamma_is_finite := Cert.Pre_gamma_is_finite.Gen.facts) := by
  intro m g m' g' hp ha
  refine ⟨fun c => Cert.KernelIdeal.Value.G6 m c, fun c => Cert.KernelIdeal.Value.G7 m c, fun c => Cert.KernelIdeal.Value.G8 m c,
    fun c => Cert.KernelIdeal.Value.G9 m c, fun c => Cert.KernelIdeal.Value.G10 m c, Cert.KernelIdeal.Value.run m g, ?_⟩
  refine (θ_run _ _ _).mono (fun r h c => ?_) (Cert.ReferenceIdeal.Value.run_blocks m' g')
  obtain ⟨h6, h7, h8, h9, h10, hargs⟩ := h c
  exact ⟨h6.trans (Mla.q_same m m' hp ha c), h7.trans (Mla.kv_same m m' hp ha c), h8.trans (Mla.pe_same m m' hp ha c),
    h9.trans (Mla.codes_same m m' hp ha c), h10.trans (Mla.scales_same m m' hp ha c), hargs⟩

/-- The frames of the three programs, that idealising the kernel changes nothing, and the algebraic claim. -/
theorem claim : Cert.Claim := ⟨Cert.Kernel.Gen.facts, Cert.KernelIdeal.Gen.facts, Cert.ReferenceIdeal.Gen.facts, Cert.Pre_gamma_is_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
